-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x8192 : Shape := ⟨3, ![1, 3072, 8192]⟩
abbrev S_ : Shape := ⟨0, ![]⟩
abbrev S1x3072x4608 : Shape := ⟨3, ![1, 3072, 4608]⟩
abbrev S8192x4608 : Shape := ⟨2, ![8192, 4608]⟩
abbrev S3072x8192 : Shape := ⟨2, ![3072, 8192]⟩
abbrev S3072x4608 : Shape := ⟨2, ![3072, 4608]⟩
abbrev S1x1 : Shape := ⟨2, ![1, 1]⟩
abbrev S384x4608 : Shape := ⟨2, ![384, 4608]⟩
abbrev S1x4608 : Shape := ⟨2, ![1, 4608]⟩
abbrev S4608 : Shape := ⟨1, ![4608]⟩
abbrev S1 : Shape := ⟨1, ![1]⟩
abbrev S1x256 : Shape := ⟨2, ![1, 256]⟩
abbrev S3072x512 : Shape := ⟨2, ![3072, 512]⟩
abbrev S512x4608 : Shape := ⟨2, ![512, 4608]⟩

abbrev nBuf : Space → Nat
  | .hbm => 13
  | .vmem => 17
  | .smem => 2
  | _ => 0

abbrev bufTy : (tb : Table) → Fin (tcTables nBuf tb) → BufTy
  | .hbm, ⟨0, _⟩ => ⟨S1x3072x8192, .fp8e4m3⟩
  | .hbm, ⟨1, _⟩ => ⟨S_, .f32⟩
  | .hbm, ⟨2, _⟩ => ⟨S1x3072x4608, .bf16⟩
  | .hbm, ⟨3, _⟩ => ⟨S8192x4608, .f32⟩
  | .hbm, ⟨4, _⟩ => ⟨S3072x8192, .fp8e4m3⟩
  | .hbm, ⟨5, _⟩ => ⟨S3072x4608, .bf16⟩
  | .hbm, ⟨6, _⟩ => ⟨S1x1, .f32⟩
  | .hbm, ⟨7, _⟩ => ⟨S1x1, .f32⟩
  | .hbm, ⟨8, _⟩ => ⟨S3072x4608, .fp8e5m2⟩
  | .hbm, ⟨9, _⟩ => ⟨S1x1, .f32⟩
  | .hbm, ⟨10, _⟩ => ⟨S8192x4608, .f32⟩
  | .hbm, ⟨11, _⟩ => ⟨S1x3072x4608, .fp8e5m2⟩
  | .hbm, ⟨12, _⟩ => ⟨S_, .f32⟩
  | .local _ .vmem, ⟨0, _⟩ => ⟨S384x4608, .bf16⟩
  | .local _ .vmem, ⟨1, _⟩ => ⟨S384x4608, .bf16⟩
  | .local _ .vmem, ⟨2, _⟩ => ⟨S1x1, .f32⟩
  | .local _ .vmem, ⟨3, _⟩ => ⟨S1x1, .f32⟩
  | .local _ .vmem, ⟨4, _⟩ => ⟨S1x4608, .bf16⟩
  | .local _ .vmem, ⟨5, _⟩ => ⟨S1x1, .f32⟩
  | .local _ .vmem, ⟨6, _⟩ => ⟨S384x4608, .bf16⟩
  | .local _ .vmem, ⟨7, _⟩ => ⟨S384x4608, .bf16⟩
  | .local _ .vmem, ⟨8, _⟩ => ⟨S384x4608, .fp8e5m2⟩
  | .local _ .vmem, ⟨9, _⟩ => ⟨S384x4608, .fp8e5m2⟩
  | .local _ .vmem, ⟨10, _⟩ => ⟨S3072x512, .fp8e4m3⟩
  | .local _ .vmem, ⟨11, _⟩ => ⟨S3072x512, .fp8e4m3⟩
  | .local _ .vmem, ⟨12, _⟩ => ⟨S3072x4608, .fp8e5m2⟩
  | .local _ .vmem, ⟨13, _⟩ => ⟨S512x4608, .f32⟩
  | .local _ .vmem, ⟨14, _⟩ => ⟨S512x4608, .f32⟩
  | .local _ .vmem, ⟨15, _⟩ => ⟨S512x4608, .f32⟩
  | .local _ .vmem, ⟨16, _⟩ => ⟨S512x4608, .f32⟩
  | .local _ .smem, ⟨0, _⟩ => ⟨S1x1, .f32⟩
  | .local _ .smem, ⟨1, _⟩ => ⟨S1x1, .f32⟩
  | _, _ => ⟨S1x3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg5_1 : Ref sig .tc := ⟨.vmem, 16, rfl⟩
abbrev cc2_stg0_0 : Ref sig .tc := ⟨.smem, 0, rfl⟩
abbrev cc2_stg1_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem2_0 : DmaSem sig := 11
abbrev cc2_sem2_1 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem5_1 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S384x4608 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S384x4608 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3072x512 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3072x4608 .fp8e5m2 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x4608 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x4608 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S1x3072x8192 : Shape := ⟨3, ![1, 3072, 8192]⟩
abbrev S_ : Shape := ⟨0, ![]⟩
abbrev S1x3072x4608 : Shape := ⟨3, ![1, 3072, 4608]⟩
abbrev S8192x4608 : Shape := ⟨2, ![8192, 4608]⟩
abbrev S3072x8192 : Shape := ⟨2, ![3072, 8192]⟩
abbrev S1x1 : Shape := ⟨2, ![1, 1]⟩
abbrev S3072x4608 : Shape := ⟨2, ![3072, 4608]⟩
abbrev S1 : Shape := ⟨1, ![1]⟩
abbrev S1x1x1 : Shape := ⟨3, ![1, 1, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x3072x8192, .fp8e4m3⟩
  | .hbm, ⟨1, _⟩ => ⟨S_, .f32⟩
  | .hbm, ⟨2, _⟩ => ⟨S1x3072x4608, .bf16⟩
  | .hbm, ⟨3, _⟩ => ⟨S8192x4608, .f32⟩
  | .hbm, ⟨4, _⟩ => ⟨S3072x8192, .fp8e4m3⟩
  | .hbm, ⟨5, _⟩ => ⟨S1x1, .f32⟩
  | .hbm, ⟨6, _⟩ => ⟨S3072x4608, .bf16⟩
  | .hbm, ⟨7, _⟩ => ⟨S8192x4608, .f32⟩
  | .hbm, ⟨8, _⟩ => ⟨S3072x4608, .fp8e5m2⟩
  | .hbm, ⟨9, _⟩ => ⟨S1x1, .f32⟩
  | .hbm, ⟨10, _⟩ => ⟨S1x3072x4608, .fp8e5m2⟩
  | .hbm, ⟨11, _⟩ => ⟨S_, .f32⟩
  | .local _ .vmem, ⟨0, _⟩ => ⟨S3072x8192, .fp8e4m3⟩
  | .local _ .vmem, ⟨1, _⟩ => ⟨S1x1, .f32⟩
  | .local _ .vmem, ⟨2, _⟩ => ⟨S3072x4608, .bf16⟩
  | .local _ .vmem, ⟨3, _⟩ => ⟨S8192x4608, .f32⟩
  | .local _ .vmem, ⟨4, _⟩ => ⟨S8192x4608, .f32⟩
  | .local _ .vmem, ⟨5, _⟩ => ⟨S3072x4608, .fp8e5m2⟩
  | .local _ .vmem, ⟨6, _⟩ => ⟨S1x1, .f32⟩
  | _, _ => ⟨S1x3072x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x4608 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Region0.lean ====
/- The first call, which takes the largest magnitude of dy and makes the scale and its inverse: its run from any entry contents,
   what the carried row of column maxima holds after each grid point, its proof data, its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.ValueKit.Acc
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S1x1 .f32 := (Memref.whole cc0_stg1_0 : Memref sig .tc .vmem S1x1 .f32).view
/-- One staging buffer of output window 2, through which its contents are stated (`View.read_writes_of_cover`: the
    choice does not matter). -/
abbrev VO0_2 : View sig .tc .vmem S1x1 .f32 := (Memref.whole cc0_stg2_0 : Memref sig .tc .vmem S1x1 .f32).view
/-- Each window's current staging memref at point `t`, spelled as the pipeline passes it (`bodyAt0`), and its wholeness. -/
abbrev ms0_0 (t : Fin cfg0.N) : Memref sig .tc .vmem S384x4608 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1x4608 .bf16 := Memref.whole cc0_scratch0
/-- The scratch `arg4` the kernel carries between points, as a view: what it holds is stated through it. -/
abbrev VS0_0 : View sig .tc .vmem S1x4608 .bf16 := scM0_0.view

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : cond0_0 i) (hc1 : ¬cond0_1 i)
    (x0 : Vec F S384x4608 .bf16) :
    Σ' (L1 : List (View.Piece (Elt F) S1x1 .f32)), Σ' (L2 : List (View.Piece (Elt F) S1x1 .f32)), { LS0 : List (View.Piece (Elt F) S1x4608 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : ¬cond0_1 i)
    (x0 : Vec F S384x4608 .bf16) (xs0 : Vec F S1x4608 .bf16) :
    Σ' (L1 : List (View.Piece (Elt F) S1x1 .f32)), Σ' (L2 : List (View.Piece (Elt F) S1x1 .f32)), { LS0 : List (View.Piece (Elt F) S1x4608 .bf16) //
      ∀ (xi1 : Vec F S1x1 .f32) (xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨[], [], ?_, fun xi1 xi2 E K => ?run⟩
  case run =>
    simp only [cc0_dy_amax_eq_skeleton]; unfold cc0_dy_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) :
    Σ' (L1 : List (View.Piece (Elt F) S1x1 .f32)), Σ' (L2 : List (View.Piece (Elt F) S1x1 .f32)), { LS0 : List (View.Piece (Elt F) S1x4608 .bf16) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_dy_amax i arg1 harg1 arg2 harg2 arg3 harg3 arg4 harg4) K } := by
  refine ⟨?_, ?_, ?_, fun E K => ?run⟩
  case run =>
    simp only [cc0_dy_amax_eq_skeleton]; unfold cc0_dy_amax_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    isplitl [H2]; · iexists _; iexact H2
    iexists _; iexact HS0

/-! ## What each case leaves, in plain terms -/

/-- Case A's pieces for scratch `arg4`, which the kernel carries between points, cover it: 2 pieces of `S1x4608` tiling it (Lib/Ring.lean `Piece.tiledL`). -/
theorem scover0_A_0 (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : cond0_0 i) (hc1 : ¬cond0_1 i)
    (x0 : Vec F S384x4608 .bf16) (y : S1x4608.Idx) :
    ∃ pc ∈ (kernelRun0_A c i arg1 harg1 arg2 harg2 arg3 harg3 arg4 harg4 hc0 hc1 x0).2.2.1, y ∈ pc.1.set :=
  View.cover_of_tiledL (kernelRun0_A c i arg1 harg1 arg2 harg2 arg3 harg3 arg4 harg4 hc0 hc1 x0).2.2.1 S1x4608.size (by sl_kernel_rfl) y

/-- Case B's pieces for scratch `arg4`, which the kernel carries between points, cover it: 1 piece of `S1x4608` tiling it (Lib/Ring.lean `Piece.tiledL`). -/
theorem scover0_B_0 (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : ¬cond0_1 i)
    (x0 : Vec F S384x4608 .bf16) (xs0 : Vec F S1x4608 .bf16) (y : S1x4608.Idx) :
    ∃ pc ∈ (kernelRun0_B c i arg1 harg1 arg2 harg2 arg3 harg3 arg4 harg4 hc0 hc1 x0 xs0).2.2.1, y ∈ pc.1.set :=
  View.cover_of_tiledL (kernelRun0_B c i arg1 harg1 arg2 harg2 arg3 harg3 arg4 harg4 hc0 hc1 x0 xs0).2.2.1 S1x4608.size (by sl_kernel_rfl) y

/-- Case C's pieces for scratch `arg4`, which the kernel carries between points, cover it: 1 piece of `S1x4608` tiling it (Lib/Ring.lean `Piece.tiledL`). -/
theorem scover0_C_0 (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) (y : S1x4608.Idx) :
    ∃ pc ∈ (kernelRun0_C c i arg1 harg1 arg2 harg2 arg3 harg3 arg4 harg4 hc0 hc1 x0 xs0).2.2.1, y ∈ pc.1.set :=
  View.cover_of_tiledL (kernelRun0_C c i arg1 harg1 arg2 harg2 arg3 harg3 arg4 harg4 hc0 hc1 x0 xs0).2.2.1 S1x4608.size (by sl_kernel_rfl) y

/-- Case C's pieces for output 1 tile its block (1 store of `S1x1`, checked by the kernel's evaluation: Lib/Ring.lean `Piece.tiledL`, linear in the pieces, through a loop's `@[irreducible]` trip theorem too), so they cover it. -/
theorem cover0_C_1 (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) (y : S1x1.Idx) :
    ∃ pc ∈ (kernelRun0_C c i arg1 harg1 arg2 harg2 arg3 harg3 arg4 harg4 hc0 hc1 x0 xs0).1, y ∈ pc.1.set :=
  View.cover_of_tiledL (kernelRun0_C c i arg1 harg1 arg2 harg2 arg3 harg3 arg4 harg4 hc0 hc1 x0 xs0).1 S1x1.size (by sl_kernel_rfl) y

/-- Case C's pieces for output 2 tile its block (1 store of `S1x1`, checked by the kernel's evaluation: Lib/Ring.lean `Piece.tiledL`, linear in the pieces, through a loop's `@[irreducible]` trip theorem too), so they cover it. -/
theorem cover0_C_2 (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) (y : S1x1.Idx) :
    ∃ pc ∈ (kernelRun0_C c i arg1 harg1 arg2 harg2 arg3 harg3 arg4 harg4 hc0 hc1 x0 xs0).2.1, y ∈ pc.1.set :=
  View.cover_of_tiledL (kernelRun0_C c i arg1 harg1 arg2 harg2 arg3 harg3 arg4 harg4 hc0 hc1 x0 xs0).2.1 S1x1.size (by sl_kernel_rfl) y

/-- At the first point the carried row starts from zero. -/
theorem rowA (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : cond0_0 i) (hc1 : ¬cond0_1 i)
    (x0 : Vec F S384x4608 .bf16) :
    VS0_0.read (Elt F) (VS0_0.writes (Elt F) VS0_0.junk (kernelRun0_A c i arg1 harg1 arg2 harg2 arg3 harg3 arg4 harg4 hc0 hc1 x0).2.2.1) = k0_pay2 x0 (k0_pay1 (F := F)) := by
  frame_out

/-- At a middle point the carried row takes in the block. -/
theorem rowB (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : ¬cond0_1 i)
    (x0 : Vec F S384x4608 .bf16) (xs0 : Vec F S1x4608 .bf16) :
    VS0_0.read (Elt F) (VS0_0.writes (Elt F) VS0_0.junk (kernelRun0_B c i arg1 harg1 arg2 harg2 arg3 harg3 arg4 harg4 hc0 hc1 x0 xs0).2.2.1) = k0_pay2 x0 xs0 := by
  frame_out

/-- So it does at the last point, -/
theorem rowC (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) :
    VS0_0.read (Elt F) (VS0_0.writes (Elt F) VS0_0.junk (kernelRun0_C c i arg1 harg1 arg2 harg2 arg3 harg3 arg4 harg4 hc0 hc1 x0 xs0).2.2.1) = k0_pay2 x0 xs0 := by
  frame_out

/-- where the scale is made from the whole row, -/
theorem scaleC (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) :
    VO0_1.read (Elt F) (VO0_1.writes (Elt F) VO0_1.junk (kernelRun0_C c i arg1 harg1 arg2 harg2 arg3 harg3 arg4 harg4 hc0 hc1 x0 xs0).1) = k0_pay5 (k0_pay2 x0 xs0) := by
  frame_out

/-- and its inverse. -/
theorem invC (c : Dev nD) (i : grid0.Coords) (arg1 : Memref sig .tc .vmem S384x4608 .bf16) (harg1 : arg1.IsWhole) (arg2 : Memref sig .tc .vmem S1x1 .f32) (harg2 : arg2.IsWhole) (arg3 : Memref sig .tc .vmem S1x1 .f32) (harg3 : arg3.IsWhole) (arg4 : Memref sig .tc .vmem S1x4608 .bf16) (harg4 : arg4.IsWhole) (hc0 : ¬cond0_0 i) (hc1 : cond0_1 i)
    (x0 : Vec F S384x4608 .bf16) (xs0 : Vec F S1x4608 .bf16) :
    VO0_2.read (Elt F) (VO0_2.writes (Elt F) VO0_2.junk (kernelRun0_C c i arg1 harg1 arg2 harg2 arg3 harg3 arg4 harg4 hc0 hc1 x0 xs0).2.1) = k0_pay3 (F := F) (k0_pay4 (k0_pay2 x0 xs0)) := by
  frame_out

/-- The carried row after point `n`: the column maxima of the magnitudes of the blocks seen so far. -/
def row (c : Dev nD) : (n : ℕ) → n < cfg0.N → Vec F S1x4608 .bf16
  | 0, hn => k0_pay2 (iblk V c 0 ⟨0, hn⟩) (k0_pay1 (F := F))
  | n + 1, hn => k0_pay2 (iblk V c 0 ⟨n + 1, hn⟩) (row c n (Nat.lt_of_succ_lt hn))

/-- At a point that is not the first, the row is the point's block taken into the row before. -/
theorem row_pos (c : Dev nD) (t : Fin cfg0.N) (h : t.val ≠ 0) :
    row V c t.val t.isLt = k0_pay2 (iblk V c 0 t) (row V c (t.val - 1) (Nat.lt_of_le_of_lt (Nat.sub_le _ _) t.isLt)) := by
  obtain ⟨n, hn⟩ := t
  cases n with
  | zero => exact absurd rfl h
  | succ n => rfl

theorem row_zero (c : Dev nD) (t : Fin cfg0.N) (h : t.val = 0) :
    row V c t.val t.isLt = k0_pay2 (iblk V c 0 t) (k0_pay1 (F := F)) := by
  obtain ⟨n, hn⟩ := t
  cases n with
  | zero => rfl
  | succ n => exact absurd h (Nat.succ_ne_zero n)

/-- The other calls' staging buffers, at anything: they ride. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f))

theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ others c) := by
  rw [scopedRest0_eq]; simp only [scM0_0, owns_whole]; rfl

/-- The region's invariant before position `n`: the carried row at anything before the first point, afterwards at what the point
    before left; the other scoped buffers at anything, the generator register at some state. -/
def PhiS (c : Dev nD) : (n : ℕ) → n ≤ cfg0.N → sProp 𝕄
  | 0, _ => iprop(Pipeline.scopedRest (Ix := Unit) (Name := ℕ) (U := UR sig nD τ) (Lvl := ℕ) (Val := Elt F) spec0 c ∗ ∃ r, prngReg c r)
  | n + 1, hn => iprop((owns (c : Thread nD τ) scM0_0 fullShare (row V c n hn) ∗ others c) ∗ ∃ r, prngReg c r)

theorem PhiS_zero (c : Dev nD) (n : ℕ) (h : n ≤ cfg0.N) (hz : n = 0) :
    PhiS V c n h = iprop(((∃ d, owns (c : Thread nD τ) scM0_0 fullShare d) ∗ others c) ∗ ∃ r, prngReg c r) := by
  subst hz; unfold PhiS; rw [scopedRest_eq]

theorem PhiS_succ (c : Dev nD) (n : ℕ) (hn : n < cfg0.N) :
    PhiS V c (n + 1) hn = iprop((owns (c : Thread nD τ) scM0_0 fullShare (row V c n hn) ∗ others c) ∗ ∃ r, prngReg c r) := rfl

theorem PhiS_pos (c : Dev nD) (n : ℕ) (h : n ≤ cfg0.N) (hz : n ≠ 0) :
    PhiS V c n h = iprop((owns (c : Thread nD τ) scM0_0 fullShare (row V c (n - 1) (by omega)) ∗ others c) ∗ ∃ r, prngReg c r) := by
  cases n with
  | zero => exact absurd rfl hz
  | succ n => rfl

/-! ## The proof data -/

/-- The arrays as the region finds them; after the body each input's buffer at its block, the outputs' at the scale and the inverse
    scale of the carried row (consulted at the last point alone); the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => k0_pay5 (row V c t.val t.isLt)
    | ⟨2, _⟩ => k0_pay3 (F := F) (k0_pay4 (row V c t.val t.isLt))
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; exact Pipeline.Dat.Φ_castSucc (PhiS V c) t

theorem after0_0 (c : Dev nD) (t : Fin cfg0.N) : (dat V c).after 0 t = iblk V c 0 t := by dsimp only [dat]
theorem after0_1 (c : Dev nD) (t : Fin cfg0.N) : (dat V c).after 1 t = k0_pay5 (row V c t.val t.isLt) := by dsimp only [dat]
theorem after0_2 (c : Dev nD) (t : Fin cfg0.N) : (dat V c).after 2 t = k0_pay3 (F := F) (k0_pay4 (row V c t.val t.isLt)) := by dsimp only [dat]

theorem before0_0 (c : Dev nD) (t : Fin cfg0.N) (d) : (dat V c).before 0 t d = iblk V c 0 t :=
  before0_0_of V (dat V c) (A_eq V c 0) (after0_0 V c) t d

/-! ## The body obligation -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat V c).owesAt () t.succ = (dat V c).owesAt () t.castSucc from rfl]
  rw [show (dat V c).Φ t.succ = PhiS V c (t.val + 1) t.isLt from rfl, PhiS_succ]
  have hN : t.val < 8 := lt_of_lt_of_eq t.isLt (show cfg0.N = 8 from N_0)
  by_cases h0 : t.val % 8 = 0
  · by_cases h1 : t.val % 8 = 7
    · exfalso; omega
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_A t ((hcond0_0 t).mpr h0) (fun h => h1 ((hcond0_1 t).mp h))) (noFlush0_1_A t ((hcond0_0 t).mpr h0) (fun h => h1 ((hcond0_1 t).mp h)))]
      rw [Dat.leavesExact_idle (dat V c) 2 t (idleAt0_2_A t ((hcond0_0 t).mpr h0) (fun h => h1 ((hcond0_1 t).mp h))) (noFlush0_2_A t ((hcond0_0 t).mpr h0) (fun h => h1 ((hcond0_1 t).mp h)))]
      by_cases hz : t.val = 0
      · rw [PhiS_castSucc V c t, PhiS_zero V c _ _ hz]
        rw [row_zero V c t hz]
        iintro ⟨⟨⟨HS0, Hx⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk V c 0 t)).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hx Hg]
        · isplitl [HS0 Hx]
          · isplitl [HS0]
            · unfold owns; iexists _; isplitr
              swap; · iexact HS0
              ipureintro; exact (View.read_writes_of_cover _ _ _ _ _ (scover0_A_0 c _ _ _ _ _ _ _ _ _ _ _ _)).trans (rowA _ _ _ _ _ _ _ _ _ _ _ _ _)
            iexact Hx
          iexact Hg
        isplitl [Ho]; · iexact Ho
        isplitl [H0]; · iexact H0
        isplitl [H1]; · iexists _; iexact H1
        iexists _; iexact H2
      · exfalso; have hN : t.val < 8 := lt_of_lt_of_eq t.isLt (show cfg0.N = 8 from N_0); omega
  · by_cases h1 : t.val % 8 = 7
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_C t (fun h => h0 ((hcond0_0 t).mp h)) ((hcond0_1 t).mpr h1)], after0_1]
      rw [show (dat V c).leavesExact 2 t = owns (c : Thread nD τ) (ms0_2 t) fullShare ((dat V c).after 2 t) from by
      unfold Dat.leavesExact; rw [liveAt0_2_C t (fun h => h0 ((hcond0_0 t).mp h)) ((hcond0_1 t).mpr h1)], after0_2]
      by_cases hz : t.val = 0
      · exfalso; have hN : t.val < 8 := lt_of_lt_of_eq t.isLt (show cfg0.N = 8 from N_0); omega
      · rw [PhiS_castSucc V c t, PhiS_pos V c _ _ hz]
        rw [row_pos V c t hz]
        iintro ⟨⟨⟨HS0, Hx⟩, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk V c 0 t) _).2.2.2 Set.univ _)
        isplitl [H0]; · iexact H0
        isplitl [H1]; · iexists _; iexact H1
        isplitl [H2]; · iexists _; iexact H2
        isplitl [HS0]; · iexact HS0
        iintro ⟨H0, ⟨%e1, H1⟩, ⟨%e2, H2⟩, ⟨%es0, HS0⟩⟩
        isplitl [HS0 Hx Hg]
        · isplitl [HS0 Hx]
          · isplitl [HS0]
            · unfold owns; iexists _; isplitr
              swap; · iexact HS0
              ipureintro; exact (View.read_writes_of_cover _ _ _ _ _ (scover0_C_0 c _ _ _ _ _ _ _ _ _ _ _ _ _)).trans (rowC _ _ _ _ _ _ _ _ _ _ _ _ _ _)
            iexact Hx
          iexact Hg
        isplitl [Ho]; · iexact Ho
        isplitl [H0]; · iexact H0
        isplitl [H1]
        · unfold owns; iexists _; isplitr
          swap; · iexact H1
          ipureintro; exact (View.read_writes_of_cover _ _ _ _ _ (cover0_C_1 c _ _ _ _ _ _ _ _ _ _ _ _ _)).trans (scaleC _ _ _ _ _ _ _ _ _ _ _ _ _ _)
        unfold owns; iexists _; isplitr
        swap; · iexact H2
        ipureintro; exact (View.read_writes_of_cover _ _ _ _ _ (cover0_C_2 c _ _ _ _ _ _ _ _ _ _ _ _ _)).trans (invC _ _ _ _ _ _ _ _ _ _ _ _ _ _)
    · rw [show (dat V c).leavesExact 0 t = owns (c : Thread nD τ) (ms0_0 t) fullShare ((dat V c).after 0 t) from by
      unfold Dat.leavesExact; rw [liveAt0_0 t], after0_0]
      rw [Dat.leavesExact_idle (dat V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      rw [Dat.leavesExact_idle (dat V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      by_cases hz : t.val = 0
      · exfalso; have hN : t.val < 8 := lt_of_lt_of_eq t.isLt (show cfg0.N = 8 from N_0); omega
      · rw [PhiS_castSucc V c t, PhiS_pos V c _ _ hz]
        rw [row_pos V c t hz]
        iintro ⟨⟨⟨HS0, Hx⟩, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk V c 0 t) _).2.2.2 _ _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hx Hg]
        · isplitl [HS0 Hx]
          · isplitl [HS0]
            · unfold owns; iexists _; isplitr
              swap; · iexact HS0
              ipureintro; exact (View.read_writes_of_cover _ _ _ _ _ (scover0_B_0 c _ _ _ _ _ _ _ _ _ _ _ _ _)).trans (rowB _ _ _ _ _ _ _ _ _ _ _ _ _ _)
            iexact Hx
          iexact Hg
        isplitl [Ho]; · iexact Ho
        isplitl [H0]; · iexact H0
        isplitl [H1]; · iexists _; iexact H1
        iexists _; iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the region is entered with is the invariant before the first point. -/
theorem hin (c : Dev nD) :
    iprop(Pipeline.scopedRest (Ix := Unit) (Name := ℕ) (U := UR sig nD τ) (Lvl := ℕ) (Val := Elt F) spec0 c ∗ ∃ r, prngReg c r)
      ⊢ (dat V c).Φ 0 := by
  rw [show (dat V c).Φ 0 = PhiS V c 0 (Nat.zero_le _) from rfl]
  unfold PhiS
  exact Idealize.SL.BI.Entails.refl _

/-- After the last point the carried row's contents are forgotten. -/
theorem hout (c : Dev nD) :
    (dat V c).Φ (Fin.last cfg0.N)
      ⊢ iprop(Pipeline.scopedRest (Ix := Unit) (Name := ℕ) (U := UR sig nD τ) (Lvl := ℕ) (Val := Elt F) spec0 c ∗ ∃ r, prngReg c r) := by
  have hN : cfg0.N = 8 := N_0
  rw [show (dat V c).Φ (Fin.last cfg0.N) = PhiS V c (Fin.last cfg0.N).val (Nat.le_of_lt_succ (Fin.last cfg0.N).isLt) from rfl,
    PhiS_pos V c _ _ (by rw [Fin.val_last]; omega), scopedRest_eq]
  iintro ⟨⟨HS0, Hx⟩, Hg⟩
  isplitl [HS0 Hx]
  · isplitl [HS0]
    · iexists _; iexact HS0
    iexact Hx
  iexact Hg

end Cert.KernelIdeal.Own.K0

end
-- ==== Proof.Region1.lean ====
/- The second call, which quantises dy block by block: its run from any entry contents, its proof data, its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.K1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec1 c` at any index and level type. -/
def ΦK (c : Dev nD) : sProp 𝕄 :=
  iprop(Pipeline.scopedRest (Ix := Ix) (Name := ℕ) (U := U) (Lvl := Lvl) (Val := Elt F) spec1 c ∗ ∃ r, prngReg c r)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Ix ℕ U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Ix ℕ U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 2, through which its contents are stated (`View.read_writes_of_cover`: the
    choice does not matter). -/
abbrev VO1_2 : View sig .tc .vmem S384x4608 .fp8e5m2 := (Memref.whole cc1_stg2_0 : Memref sig .tc .vmem S384x4608 .fp8e5m2).view
/-- Each window's current staging memref at point `t`, spelled as the pipeline passes it (`bodyAt1`), and its wholeness. -/
abbrev ms1_0 (t : Fin cfg1.N) : Memref sig .tc .vmem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S384x4608 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S384x4608 .fp8e5m2 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .vmem S1x1 .f32) (harg1 : arg1.IsWhole) (arg2 : Memref sig .tc .vmem S384x4608 .bf16) (harg2 : arg2.IsWhole) (arg3 : Memref sig .tc .vmem S384x4608 .fp8e5m2) (harg3 : arg3.IsWhole)
    (x0 : Vec F S1x1 .f32) (x1 : Vec F S384x4608 .bf16) :
    { L2 : List (View.Piece (Elt F) S384x4608 .fp8e5m2) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) 𝒱₀ c none) E (cc1_dy_quant i arg1 harg1 arg2 harg2 arg3 harg3) K } := by
  refine ⟨?_, fun E K => ?run⟩
  case run =>
    simp only [cc1_dy_quant_eq_skeleton]; unfold cc1_dy_quant_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (1 store of `S384x4608`, checked by the kernel's evaluation: Lib/Ring.lean `Piece.tiledL`, linear in the pieces, through a loop's `@[irreducible]` trip theorem too), so they cover it. -/
theorem cover1_A_2 (c : Dev nD) (i : grid1.Coords) (arg1 : Memref sig .tc .vmem S1x1 .f32) (harg1 : arg1.IsWhole) (arg2 : Memref sig .tc .vmem S384x4608 .bf16) (harg2 : arg2.IsWhole) (arg3 : Memref sig .tc .vmem S384x4608 .fp8e5m2) (harg3 : arg3.IsWhole)
    (x0 : Vec F S1x1 .f32) (x1 : Vec F S384x4608 .bf16) (y : S384x4608.Idx) :
    ∃ pc ∈ (kernelRun1_A (Ix := Ix) (U := U) (Lvl := Lvl) 𝒱₀ c i arg1 harg1 arg2 harg2 arg3 harg3 x0 x1).1, y ∈ pc.1.set :=
  View.cover_of_tiledL (kernelRun1_A (Ix := Ix) (U := U) (Lvl := Lvl) 𝒱₀ c i arg1 harg1 arg2 harg2 arg3 harg3 x0 x1).1 S384x4608.size (by sl_kernel_rfl) y

/-- What the run leaves in output 2's staging buffer: its pieces read back over junk. -/
def out1_A_2 (c : Dev nD) (i : grid1.Coords) (arg1 : Memref sig .tc .vmem S1x1 .f32) (harg1 : arg1.IsWhole) (arg2 : Memref sig .tc .vmem S384x4608 .bf16) (harg2 : arg2.IsWhole) (arg3 : Memref sig .tc .vmem S384x4608 .fp8e5m2) (harg3 : arg3.IsWhole)
    (x0 : Vec F S1x1 .f32) (x1 : Vec F S384x4608 .bf16) : Vec F S384x4608 .fp8e5m2 :=
  VO1_2.read (Elt F) (VO1_2.writes (Elt F) VO1_2.junk (kernelRun1_A (Ix := Ix) (U := U) (Lvl := Lvl) 𝒱₀ c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S384x4608 .fp8e5m2 :=
  out1_A_2 (Ix := Ix) (U := U) (Lvl := Lvl) 𝒱₀ c (grid1.coords t) (ms1_0 t) (hs1_0 t) (ms1_1 t) (hs1_1 t) (ms1_2 t) (hs1_2 t) (iblk V c 0 t) (iblk V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); the core owing `D c` throughout; full shares. -/
def dat (c : Dev nD) : Dat τ (Elt F) Ix ℕ U Lvl cfg1 c where
  A w := V c (Pipeline.arrRef spec1 w)
  after w t := match w with
    | ⟨0, _⟩ => iblk V c 0 t
    | ⟨1, _⟩ => iblk V c 1 t
    | ⟨2, _⟩ => (outsAt1 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg1.W) : (dat (Ix := Ix) (U := U) (Lvl := Lvl) 𝒱₀ V D c).A w = V c (Pipeline.arrRef spec1 w) := by
  dsimp only [dat]

/-- What the body leaves, window by window (the proof data's `match` reduced by `dsimp`). -/
theorem after1_0 (c : Dev nD) (t : Fin cfg1.N) : (dat (Ix := Ix) (U := U) (Lvl := Lvl) 𝒱₀ V D c).after 0 t = iblk V c 0 t := by dsimp only [dat]
theorem after1_1 (c : Dev nD) (t : Fin cfg1.N) : (dat (Ix := Ix) (U := U) (Lvl := Lvl) 𝒱₀ V D c).after 1 t = iblk V c 1 t := by dsimp only [dat]
theorem after1_2 (c : Dev nD) (t : Fin cfg1.N) : (dat (Ix := Ix) (U := U) (Lvl := Lvl) 𝒱₀ V D c).after 2 t = (outsAt1 (Ix := Ix) (U := U) (Lvl := Lvl) 𝒱₀ V c t) := by dsimp only [dat]

/-- Each input's current staging buffer holds its block at every point, fetched there or not (`beforeK_W_of`). -/
theorem before1_0 (c : Dev nD) (t : Fin cfg1.N) (d) : (dat (Ix := Ix) (U := U) (Lvl := Lvl) 𝒱₀ V D c).before 0 t d = iblk V c 0 t :=
  before1_0_of V (dat (Ix := Ix) (U := U) (Lvl := Lvl) 𝒱₀ V D c) (A_eq 𝒱₀ V D c 0) (after1_0 𝒱₀ V D c) t d
theorem before1_1 (c : Dev nD) (t : Fin cfg1.N) (d) : (dat (Ix := Ix) (U := U) (Lvl := Lvl) 𝒱₀ V D c).before 1 t d = iblk V c 1 t :=
  before1_1_of V (dat (Ix := Ix) (U := U) (Lvl := Lvl) 𝒱₀ V D c) (A_eq 𝒱₀ V D c 1) (after1_1 𝒱₀ V D c) t d

/-! ## The body obligation, at a generic point -/

/-- What the body is called with at point `t` (Lib/Pipeline.lean `BodyObligation`'s precondition, the windows one by one), -/
def bodyPre (c : Dev nD) (t : Fin cfg1.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms1_0 t) fullShare ((dat (Ix := Ix) (U := U) (Lvl := Lvl) 𝒱₀ V D c).before 0 t d))
    ∗ (∃ d, owns (c : Thread nD τ) (ms1_1 t) fullShare ((dat (Ix := Ix) (U := U) (Lvl := Lvl) 𝒱₀ V D c).before 1 t d))
    ∗ (∃ d, owns (c : Thread nD τ) (ms1_2 t) fullShare ((dat (Ix := Ix) (U := U) (Lvl := Lvl) 𝒱₀ V D c).before 2 t d)))

/-- and what it returns. -/
def bodyPost (c : Dev nD) (t : Fin cfg1.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms1_0 t) fullShare ((dat (Ix := Ix) (U := U) (Lvl := Lvl) 𝒱₀ V D c).after 0 t)
    ∗ owns (c : Thread nD τ) (ms1_1 t) fullShare ((dat (Ix := Ix) (U := U) (Lvl := Lvl) 𝒱₀ V D c).after 1 t)
    ∗ owns (c : Thread nD τ) (ms1_2 t) fullShare ((dat (Ix := Ix) (U := U) (Lvl := Lvl) 𝒱₀ V D c).after 2 t))

/-- The body at any point: the inputs' memrefs hold their blocks (`before1_W`); so the
    run applies; the invariant passes through unread; the core owes `D c` throughout. -/
theorem sound_body (c : Dev nD) (t : Fin cfg1.N) :
    bodyPre (U := U) (Lvl := Lvl) 𝒱₀ V D ι c t ⊢ wp frame (wpE (defs₀ (F := F)) 𝒱₀ c none) Set.univ (bodyAt1 t) (fun _ => bodyPost (U := U) (Lvl := Lvl) 𝒱₀ V D ι c t) := by
  unfold bodyPre bodyPost bodyAt1
  simp only [before1_0, before1_1]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A (Ix := Ix) (U := U) (Lvl := Lvl) 𝒱₀ c (grid1.coords t) _ _ _ _ _ _ (iblk V c 0 t) (iblk V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 (Ix := Ix) (U := U) (Lvl := Lvl) 𝒱₀ c _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W1, bigSep_W1, defs₀_row]
  exact triple_restated (sound_body (U := U) (Lvl := Lvl) 𝒱₀ V D ι c t) rfl .rfl fun _ => .rfl

end Cert.KernelIdeal.Own.K1

end
-- ==== Proof.Region2.lean ====
/- The third call, the scaled matrix product: its run from any entry contents, its proof data, its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.Own.K2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec2 c` at any index and level type. -/
def ΦK (c : Dev nD) : sProp 𝕄 :=
  iprop(Pipeline.scopedRest (Ix := Ix) (Name := ℕ) (U := U) (Lvl := Lvl) (Val := Elt F) spec2 c ∗ ∃ r, prngReg c r)

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Ix ℕ U Lvl cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Ix ℕ U Lvl cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Ix ℕ U Lvl cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Ix ℕ U Lvl cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Ix ℕ U Lvl cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 5, through which its contents are stated (`View.read_writes_of_cover`: the
    choice does not matter). -/
abbrev VO2_5 : View sig .tc .vmem S512x4608 .f32 := (Memref.whole cc2_stg5_0 : Memref sig .tc .vmem S512x4608 .f32).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S3072x512 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3072x4608 .fp8e5m2 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x4608 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x4608 .f32 := win2_5.stage (cfg2.slots t 5)
abbrev hs2_5 (t : Fin cfg2.N) : (ms2_5 t).IsWhole := hstage2_5 ((cfg2.slots t 5).cast nbuf2_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .smem S1x1 .f32) (harg1 : arg1.IsWhole) (arg2 : Memref sig .tc .smem S1x1 .f32) (harg2 : arg2.IsWhole) (arg3 : Memref sig .tc .vmem S3072x512 .fp8e4m3) (harg3 : arg3.IsWhole) (arg4 : Memref sig .tc .vmem S3072x4608 .fp8e5m2) (harg4 : arg4.IsWhole) (arg5 : Memref sig .tc .vmem S512x4608 .f32) (harg5 : arg5.IsWhole) (arg6 : Memref sig .tc .vmem S512x4608 .f32) (harg6 : arg6.IsWhole)
    (x0 : Vec F S1x1 .f32) (x1 : Vec F S1x1 .f32) (x2 : Vec F S3072x512 .fp8e4m3) (x3 : Vec F S3072x4608 .fp8e5m2) (x4 : Vec F S512x4608 .f32) :
    { L5 : List (View.Piece (Elt F) S512x4608 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) 𝒱₀ c none) E (cc2_dw_matmul i arg1 harg1 arg2 harg2 arg3 harg3 arg4 harg4 arg5 harg5 arg6 harg6) K } := by
  refine ⟨?_, fun E K => ?run⟩
  case run =>
    simp only [cc2_dw_matmul_eq_skeleton]; unfold cc2_dw_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

/-- The run's pieces for output 5 tile its block (1 store of `S512x4608`, checked by the kernel's evaluation: Lib/Ring.lean `Piece.tiledL`, linear in the pieces, through a loop's `@[irreducible]` trip theorem too), so they cover it. -/
theorem cover2_A_5 (c : Dev nD) (i : grid2.Coords) (arg1 : Memref sig .tc .smem S1x1 .f32) (harg1 : arg1.IsWhole) (arg2 : Memref sig .tc .smem S1x1 .f32) (harg2 : arg2.IsWhole) (arg3 : Memref sig .tc .vmem S3072x512 .fp8e4m3) (harg3 : arg3.IsWhole) (arg4 : Memref sig .tc .vmem S3072x4608 .fp8e5m2) (harg4 : arg4.IsWhole) (arg5 : Memref sig .tc .vmem S512x4608 .f32) (harg5 : arg5.IsWhole) (arg6 : Memref sig .tc .vmem S512x4608 .f32) (harg6 : arg6.IsWhole)
    (x0 : Vec F S1x1 .f32) (x1 : Vec F S1x1 .f32) (x2 : Vec F S3072x512 .fp8e4m3) (x3 : Vec F S3072x4608 .fp8e5m2) (x4 : Vec F S512x4608 .f32) (y : S512x4608.Idx) :
    ∃ pc ∈ (kernelRun2_A (Ix := Ix) (U := U) (Lvl := Lvl) 𝒱₀ c i arg1 harg1 arg2 harg2 arg3 harg3 arg4 harg4 arg5 harg5 arg6 harg6 x0 x1 x2 x3 x4).1, y ∈ pc.1.set :=
  View.cover_of_tiledL (kernelRun2_A (Ix := Ix) (U := U) (Lvl := Lvl) 𝒱₀ c i arg1 harg1 arg2 harg2 arg3 harg3 arg4 harg4 arg5 harg5 arg6 harg6 x0 x1 x2 x3 x4).1 S512x4608.size (by sl_kernel_rfl) y

/-- What the run leaves in output 5's staging buffer: its pieces read back over junk. -/
def out2_A_5 (c : Dev nD) (i : grid2.Coords) (arg1 : Memref sig .tc .smem S1x1 .f32) (harg1 : arg1.IsWhole) (arg2 : Memref sig .tc .smem S1x1 .f32) (harg2 : arg2.IsWhole) (arg3 : Memref sig .tc .vmem S3072x512 .fp8e4m3) (harg3 : arg3.IsWhole) (arg4 : Memref sig .tc .vmem S3072x4608 .fp8e5m2) (harg4 : arg4.IsWhole) (arg5 : Memref sig .tc .vmem S512x4608 .f32) (harg5 : arg5.IsWhole) (arg6 : Memref sig .tc .vmem S512x4608 .f32) (harg6 : arg6.IsWhole)
    (x0 : Vec F S1x1 .f32) (x1 : Vec F S1x1 .f32) (x2 : Vec F S3072x512 .fp8e4m3) (x3 : Vec F S3072x4608 .fp8e5m2) (x4 : Vec F S512x4608 .f32) : Vec F S512x4608 .f32 :=
  VO2_5.read (Elt F) (VO2_5.writes (Elt F) VO2_5.junk (kernelRun2_A (Ix := Ix) (U := U) (Lvl := Lvl) 𝒱₀ c i arg1 harg1 arg2 harg2 arg3 harg3 arg4 harg4 arg5 harg5 arg6 harg6 x0 x1 x2 x3 x4).1)

/-! ## What the outputs hold after each point -/

/-- What the outputs' staging buffers hold after the body at point `t`: the run's contents at
    the point's memrefs and input blocks. -/
def outsAt2 (c : Dev nD) (t : Fin cfg2.N) : Vec F S512x4608 .f32 :=
  out2_A_5 (Ix := Ix) (U := U) (Lvl := Lvl) 𝒱₀ c (grid2.coords t) (ms2_0 t) (hs2_0 t) (ms2_1 t) (hs2_1 t) (ms2_2 t) (hs2_2 t) (ms2_3 t) (hs2_3 t) (ms2_4 t) (hs2_4 t) (ms2_5 t) (hs2_5 t) (iblk V c 0 t) (iblk V c 1 t) (iblk V c 2 t) (iblk V c 3 t) (iblk V c 4 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); the core owing `D c` throughout; full shares. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt2 (Ix := Ix) (U := U) (Lvl := Lvl) 𝒱₀ V c t)
  Φ _ := ΦK (F := F) (Ix := Ix) (U := U) (Lvl := Lvl) c
  q _ := fullShare
  owed _ := D c

variable (ι : Ix)

/-- The proof data's arrays are the region-entry contents `V`: the proof data's definition projected (`dsimp`). -/
theorem A_eq (c : Dev nD) (w : Fin cfg2.W) : (dat (Ix := Ix) (U := U) (Lvl := Lvl) 𝒱₀ V D c).A w = V c (Pipeline.arrRef spec2 w) := by
  dsimp only [dat]

/-- What the body leaves, window by window (the proof data's `match` reduced by `dsimp`). -/
theorem after2_0 (c : Dev nD) (t : Fin cfg2.N) : (dat (Ix := Ix) (U := U) (Lvl := Lvl) 𝒱₀ V D c).after 0 t = iblk V c 0 t := by dsimp only [dat]
theorem after2_1 (c : Dev nD) (t : Fin cfg2.N) : (dat (Ix := Ix) (U := U) (Lvl := Lvl) 𝒱₀ V D c).after 1 t = iblk V c 1 t := by dsimp only [dat]
theorem after2_2 (c : Dev nD) (t : Fin cfg2.N) : (dat (Ix := Ix) (U := U) (Lvl := Lvl) 𝒱₀ V D c).after 2 t = iblk V c 2 t := by dsimp only [dat]
theorem after2_3 (c : Dev nD) (t : Fin cfg2.N) : (dat (Ix := Ix) (U := U) (Lvl := Lvl) 𝒱₀ V D c).after 3 t = iblk V c 3 t := by dsimp only [dat]
theorem after2_4 (c : Dev nD) (t : Fin cfg2.N) : (dat (Ix := Ix) (U := U) (Lvl := Lvl) 𝒱₀ V D c).after 4 t = iblk V c 4 t := by dsimp only [dat]
theorem after2_5 (c : Dev nD) (t : Fin cfg2.N) : (dat (Ix := Ix) (U := U) (Lvl := Lvl) 𝒱₀ V D c).after 5 t = (outsAt2 (Ix := Ix) (U := U) (Lvl := Lvl) 𝒱₀ V c t) := by dsimp only [dat]

/-- Each input's current staging buffer holds its block at every point, fetched there or not (`beforeK_W_of`). -/
theorem before2_0 (c : Dev nD) (t : Fin cfg2.N) (d) : (dat (Ix := Ix) (U := U) (Lvl := Lvl) 𝒱₀ V D c).before 0 t d = iblk V c 0 t :=
  before2_0_of V (dat (Ix := Ix) (U := U) (Lvl := Lvl) 𝒱₀ V D c) (A_eq 𝒱₀ V D c 0) (after2_0 𝒱₀ V D c) t d
theorem before2_1 (c : Dev nD) (t : Fin cfg2.N) (d) : (dat (Ix := Ix) (U := U) (Lvl := Lvl) 𝒱₀ V D c).before 1 t d = iblk V c 1 t :=
  before2_1_of V (dat (Ix := Ix) (U := U) (Lvl := Lvl) 𝒱₀ V D c) (A_eq 𝒱₀ V D c 1) (after2_1 𝒱₀ V D c) t d
theorem before2_2 (c : Dev nD) (t : Fin cfg2.N) (d) : (dat (Ix := Ix) (U := U) (Lvl := Lvl) 𝒱₀ V D c).before 2 t d = iblk V c 2 t :=
  before2_2_of V (dat (Ix := Ix) (U := U) (Lvl := Lvl) 𝒱₀ V D c) (A_eq 𝒱₀ V D c 2) (after2_2 𝒱₀ V D c) t d
theorem before2_3 (c : Dev nD) (t : Fin cfg2.N) (d) : (dat (Ix := Ix) (U := U) (Lvl := Lvl) 𝒱₀ V D c).before 3 t d = iblk V c 3 t :=
  before2_3_of V (dat (Ix := Ix) (U := U) (Lvl := Lvl) 𝒱₀ V D c) (A_eq 𝒱₀ V D c 3) (after2_3 𝒱₀ V D c) t d
theorem before2_4 (c : Dev nD) (t : Fin cfg2.N) (d) : (dat (Ix := Ix) (U := U) (Lvl := Lvl) 𝒱₀ V D c).before 4 t d = iblk V c 4 t :=
  before2_4_of V (dat (Ix := Ix) (U := U) (Lvl := Lvl) 𝒱₀ V D c) (A_eq 𝒱₀ V D c 4) (after2_4 𝒱₀ V D c) t d

/-! ## The body obligation, at a generic point -/

/-- What the body is called with at point `t` (Lib/Pipeline.lean `BodyObligation`'s precondition, the windows one by one), -/
def bodyPre (c : Dev nD) (t : Fin cfg2.N) : sProp 𝕄 :=
  iprop((dat (Ix := Ix) (U := U) (Lvl := Lvl) 𝒱₀ V D c).Φ t.castSucc ∗ (dat (Ix := Ix) (U := U) (Lvl := Lvl) 𝒱₀ V D c).owesAt ι t.castSucc
    ∗ (∃ d, owns (c : Thread nD τ) (ms2_0 t) fullShare ((dat (Ix := Ix) (U := U) (Lvl := Lvl) 𝒱₀ V D c).before 0 t d))
    ∗ (∃ d, owns (c : Thread nD τ) (ms2_1 t) fullShare ((dat (Ix := Ix) (U := U) (Lvl := Lvl) 𝒱₀ V D c).before 1 t d))
    ∗ (∃ d, owns (c : Thread nD τ) (ms2_2 t) fullShare ((dat (Ix := Ix) (U := U) (Lvl := Lvl) 𝒱₀ V D c).before 2 t d))
    ∗ (∃ d, owns (c : Thread nD τ) (ms2_3 t) fullShare ((dat (Ix := Ix) (U := U) (Lvl := Lvl) 𝒱₀ V D c).before 3 t d))
    ∗ (∃ d, owns (c : Thread nD τ) (ms2_4 t) fullShare ((dat (Ix := Ix) (U := U) (Lvl := Lvl) 𝒱₀ V D c).before 4 t d))
    ∗ (∃ d, owns (c : Thread nD τ) (ms2_5 t) fullShare ((dat (Ix := Ix) (U := U) (Lvl := Lvl) 𝒱₀ V D c).before 5 t d)))

/-- and what it returns. -/
def bodyPost (c : Dev nD) (t : Fin cfg2.N) : sProp 𝕄 :=
  iprop((dat (Ix := Ix) (U := U) (Lvl := Lvl) 𝒱₀ V D c).Φ t.succ ∗ (dat (Ix := Ix) (U := U) (Lvl := Lvl) 𝒱₀ V D c).owesAt ι t.succ
    ∗ owns (c : Thread nD τ) (ms2_0 t) fullShare ((dat (Ix := Ix) (U := U) (Lvl := Lvl) 𝒱₀ V D c).after 0 t)
    ∗ owns (c : Thread nD τ) (ms2_1 t) fullShare ((dat (Ix := Ix) (U := U) (Lvl := Lvl) 𝒱₀ V D c).after 1 t)
    ∗ owns (c : Thread nD τ) (ms2_2 t) fullShare ((dat (Ix := Ix) (U := U) (Lvl := Lvl) 𝒱₀ V D c).after 2 t)
    ∗ owns (c : Thread nD τ) (ms2_3 t) fullShare ((dat (Ix := Ix) (U := U) (Lvl := Lvl) 𝒱₀ V D c).after 3 t)
    ∗ owns (c : Thread nD τ) (ms2_4 t) fullShare ((dat (Ix := Ix) (U := U) (Lvl := Lvl) 𝒱₀ V D c).after 4 t)
    ∗ owns (c : Thread nD τ) (ms2_5 t) fullShare ((dat (Ix := Ix) (U := U) (Lvl := Lvl) 𝒱₀ V D c).after 5 t))

/-- The body at any point: the inputs' memrefs hold their blocks (`before2_W`); so the
    run applies; the invariant passes through unread; the core owes `D c` throughout. -/
theorem sound_body (c : Dev nD) (t : Fin cfg2.N) :
    bodyPre (U := U) (Lvl := Lvl) 𝒱₀ V D ι c t ⊢ wp frame (wpE (defs₀ (F := F)) 𝒱₀ c none) Set.univ (bodyAt2 t) (fun _ => bodyPost (U := U) (Lvl := Lvl) 𝒱₀ V D ι c t) := by
  unfold bodyPre bodyPost bodyAt2
  simp only [before2_0, before2_1, before2_2, before2_3, before2_4]
  rw [show (dat (Ix := Ix) (U := U) (Lvl := Lvl) 𝒱₀ V D c).Φ t.succ = (dat (Ix := Ix) (U := U) (Lvl := Lvl) 𝒱₀ V D c).Φ t.castSucc from rfl,
    show (dat (Ix := Ix) (U := U) (Lvl := Lvl) 𝒱₀ V D c).owesAt ι t.succ = (dat (Ix := Ix) (U := U) (Lvl := Lvl) 𝒱₀ V D c).owesAt ι t.castSucc from rfl,
    after2_0, after2_1, after2_2, after2_3, after2_4, after2_5]
  unfold outsAt2
  unfold out2_A_5
  iintro ⟨HΦ, Ho, ⟨%d0, H0⟩, ⟨%d1, H1⟩, ⟨%d2, H2⟩, ⟨%d3, H3⟩, ⟨%d4, H4⟩, ⟨%d5, H5⟩⟩
  iapply ((kernelRun2_A (Ix := Ix) (U := U) (Lvl := Lvl) 𝒱₀ c (grid2.coords t) _ _ _ _ _ _ _ _ _ _ _ _ (iblk V c 0 t) (iblk V c 1 t) (iblk V c 2 t) (iblk V c 3 t) (iblk V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 (Ix := Ix) (U := U) (Lvl := Lvl) 𝒱₀ c _ _ _ _ _ _ _ _ _ _ _ _ _ _ _ _ _ _)

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (Ix := Ix) (U := U) (Lvl := Lvl) 𝒱₀ V D c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Own.K2

end
-- ==== Proof.Calls.lean ====
/- The three calls as regions of the whole program: each entered from the contents the program has reached and left at the contents
   its proof data compute; then the run of the whole program, every buffer read back at the end. -/
module

public import proofs.«01_k».proof.Proof.Gen.KernelIdeal.Regions
public import proofs.«01_k».proof.Proof.Region0
public import proofs.«01_k».proof.Proof.Region1
public import proofs.«01_k».proof.Proof.Region2
public import Idealize.ShloMosaic.Lib.Pipeline.RegionArrays

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The supplied regions' arrays and entry contents -/

/-- Each window's array of region 1 (custom call 1), as a device buffer, is in the region's array set. -/
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
/-- They are among the held buffers: unscoped. -/
theorem arr1_S : Pipeline.arrRefs (τ := τ) spec1 ⊆ Pipeline.ucRefs τ sig :=
  Pipeline.arrRefs_sub_ucRefs spec1 (by decide)
/-- Region 1's entry contents: the valuation before item 2, at the TensorCore's references. -/
abbrev Ve1 (m : (ℓ : Loc nD τ sig) → Buf (Elt F) ℓ) (outs : Outs (F := F)) (c : Dev nD) (b : Ref sig .tc) : Buf (Elt F) ((c : Thread nD τ).loc b) := V2 m outs c (Proc.devRef .tc b)

theorem V3_at_main_v3 (m : (ℓ : Loc nD τ sig) → Buf (Elt F) ℓ) (outs : Outs (F := F)) (c : Dev nD) : V3 m outs c (Proc.devRef .tc main_v3) = outs 3 main_v3 c := by
  simp only [V3, Function.update_self]

/-- Across region 1 every held buffer but its arrays keeps its contents: the frame has it change its output arrays alone. -/
theorem rest1_eq (m : (ℓ : Loc nD τ sig) → Buf (Elt F) ℓ) (outs : Outs (F := F)) (c : Dev nD) : ∀ b ∈ (Pipeline.ucRefs τ sig) \ Pipeline.arrRefs (τ := τ) spec1, V3 m outs c b = V2 m outs c b := fun b hb => by
  have hn : b ∉ Pipeline.arrRefs (τ := τ) spec1 := (Finset.mem_sdiff.mp hb).2
  have h_main_v3 : b ≠ Proc.devRef .tc main_v3 := by rintro rfl; exact hn (by first | exact arr1_mem 2 | decide)
  simp only [V3, Function.update_of_ne h_main_v3]

/-- Each window's array of region 2 (custom call 2), as a device buffer, is in the region's array set. -/
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
/-- They are among the held buffers: unscoped. -/
theorem arr2_S : Pipeline.arrRefs (τ := τ) spec2 ⊆ Pipeline.ucRefs τ sig :=
  Pipeline.arrRefs_sub_ucRefs spec2 (by decide)
/-- Region 2's entry contents: the valuation before item 4, at the TensorCore's references. -/
abbrev Ve2 (m : (ℓ : Loc nD τ sig) → Buf (Elt F) ℓ) (outs : Outs (F := F)) (c : Dev nD) (b : Ref sig .tc) : Buf (Elt F) ((c : Thread nD τ).loc b) := V4 m outs c (Proc.devRef .tc b)

theorem V5_at_main_v5 (m : (ℓ : Loc nD τ sig) → Buf (Elt F) ℓ) (outs : Outs (F := F)) (c : Dev nD) : V5 m outs c (Proc.devRef .tc main_v5) = outs 5 main_v5 c := by
  simp only [V5, Function.update_self]

/-- Across region 2 every held buffer but its arrays keeps its contents: the frame has it change its output arrays alone. -/
theorem rest2_eq (m : (ℓ : Loc nD τ sig) → Buf (Elt F) ℓ) (outs : Outs (F := F)) (c : Dev nD) : ∀ b ∈ (Pipeline.ucRefs τ sig) \ Pipeline.arrRefs (τ := τ) spec2, V5 m outs c b = V4 m outs c b := fun b hb => by
  have hn : b ∉ Pipeline.arrRefs (τ := τ) spec2 := (Finset.mem_sdiff.mp hb).2
  have h_main_v5 : b ≠ Proc.devRef .tc main_v5 := by rintro rfl; exact hn (by first | exact arr2_mem 5 | decide)
  simp only [V5, Function.update_of_ne h_main_v5]

section

variable {Ix : Type} [DecidableEq Ix] {U : Type} [URA U] {Lvl : Type} [Preorder Lvl]

/-- The proof-data family: a supplied pipeline's entry is the call's own `dat`, entered from `VeK` while the core owes `DK`; any
    other is the caller's. -/
def pdatsD (m : (ℓ : Loc nD τ sig) → Buf (Elt F) ℓ) (outs : Outs (F := F)) (𝒱₀ : Variants) (pdats : (p : Fin 3) → (c : Dev nD) → Dat τ (Elt F) Ix ℕ U Lvl (cfgs p) c) (D1 : Dev nD → CellTallies nD τ sig Ix) (D2 : Dev nD → CellTallies nD τ sig Ix) :
    (p : Fin 3) → (c : Dev nD) → Dat τ (Elt F) Ix ℕ U Lvl (cfgs p) c
  | ⟨1, _⟩ => fun c => K1.dat 𝒱₀ (Ve1 m outs) D1 c
  | ⟨2, _⟩ => fun c => K2.dat 𝒱₀ (Ve2 m outs) D2 c
  | p => pdats p

/-! ## The supplied regions' records and entailments -/

-- a library definition stated over `pin pcs a p` unifies with the pinned configuration only when unification may unfold plain
-- definitions in a metavariable's type
set_option backward.isDefEq.respectTransparency.types false in
/-- Region 1 (custom call 1, item 2) from the kernel's run: its arrays held at `V2` in and at `V3` out. Every other held
    buffer, at `V2`, and `Er c` ride; the random-number register goes in and comes out; the core owes `D1 c`. -/
def R1D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 1 D1 b) (Er : Dev nD → sProp (MT nD τ sig Ix (Elt F) ℕ U Lvl))
    (hout1_2 : ∀ c : Dev nD, outs 3 main_v3 c = ((pdatsD (U := U) (Lvl := Lvl) m outs 𝒱₀ pdats D1 D2) 1 c).arrAt 2 cfg1.N) :
    RegionSeg (pcfgs (F := F)) adm (pdatsD (U := U) (Lvl := Lvl) m outs 𝒱₀ pdats D1 D2) ι defs₀ 𝒱₀ L lv 1 :=
  Pipeline.RegionSeg.ofHeld (pcfgs (F := F)) adm (pdatsD (U := U) (Lvl := Lvl) m outs 𝒱₀ pdats D1 D2) ι defs₀ 𝒱₀ L lv 1 D1
    (fun c => iprop(∃ r, prngReg c r)) (fun c => iprop(∃ r, prngReg c r))
    launch1.toP rfl
    (fun c => (K1.body_obligation (U := U) (Lvl := Lvl) 𝒱₀ (Ve1 m outs) D1 ι c).loose) (fun _ _ => rfl) (fun _ => rfl)
    (fun c => ((pdatsD (U := U) (Lvl := Lvl) m outs 𝒱₀ pdats D1 D2) 1 c).share_full fun _ => rfl) (fun _ => .rfl) (fun _ => .rfl) b hcut
    (fun c => iprop(StableHlo.held (c : Thread nD τ) ((Pipeline.ucRefs τ sig) \ Pipeline.arrRefs (τ := τ) spec1) (V2 m outs c) ∗ Er c))
    (V2 m outs) (V3 m outs) (fun _ _ => rfl)
    (fun c => fun | 0 => (((pdatsD (U := U) (Lvl := Lvl) m outs 𝒱₀ pdats D1 D2) 1 c).arrAt_in 0 rfl _).trans ((K1.A_eq (U := U) (Lvl := Lvl) 𝒱₀ (Ve1 m outs) D1 c 0).trans (V3_of m outs c (Pipeline.arrRef spec1 0) (by decide)).symm) | 1 => (((pdatsD (U := U) (Lvl := Lvl) m outs 𝒱₀ pdats D1 D2) 1 c).arrAt_in 1 rfl _).trans ((K1.A_eq (U := U) (Lvl := Lvl) 𝒱₀ (Ve1 m outs) D1 c 1).trans (V3_of m outs c (Pipeline.arrRef spec1 1) (by decide)).symm) | 2 => (hout1_2 c).symm.trans (V3_at_main_v3 m outs c).symm | ⟨_ + 3, h⟩ => absurd h (Nat.not_lt.2 (Nat.le_add_left _ _)))

/-- Region 1's entry entailment: the held buffers at `V2` split at its arrays, and the rest state `E 1` sorted (`hEin`). -/
theorem hpre1D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEin : ∀ c : Dev nD, E 1 c ⊢ iprop((∃ r, prngReg c r) ∗ (∃ W, owes (c : Thread nD τ) (D1 c) W) ∗ Er c))
    (hout1_2 : ∀ c : Dev nD, outs 3 main_v3 c = ((pdatsD (U := U) (Lvl := Lvl) m outs 𝒱₀ pdats D1 D2) 1 c).arrAt 2 cfg1.N) (c : Dev nD) :
    iprop(StableHlo.held (c : Thread nD τ) (Pipeline.ucRefs τ sig) (V2 m outs c) ∗ E 1 c) ⊢ (R1D m outs 𝒱₀ L lv ι pdats D1 D2 b hcut Er hout1_2).pre c := by
  show _ ⊢ iprop(StableHlo.held (c : Thread nD τ) (Pipeline.arrRefs (τ := τ) spec1) (V2 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W)
  rw [StableHlo.held_sub_split (c : Thread nD τ) arr1_S (V2 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 1's exit entailment: its arrays at `V3` rejoined with the other held buffers, unchanged (`rest1_eq`), and the rest state
    `E 2` made (`hEout`). -/
theorem hpost1D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 1 D1 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D1 c) W) ∗ Er c) ⊢ E 2 c)
    (hout1_2 : ∀ c : Dev nD, outs 3 main_v3 c = ((pdatsD (U := U) (Lvl := Lvl) m outs 𝒱₀ pdats D1 D2) 1 c).arrAt 2 cfg1.N) (c : Dev nD) :
    (R1D m outs 𝒱₀ L lv ι pdats D1 D2 b hcut Er hout1_2).post c ⊢ iprop(StableHlo.held (c : Thread nD τ) (Pipeline.ucRefs τ sig) (V3 m outs c) ∗ E 2 c) := by
  show iprop(StableHlo.held (c : Thread nD τ) (Pipeline.arrRefs (τ := τ) spec1) (V3 m outs c) ∗ (∃ r, prngReg c r)
    ∗ (StableHlo.held (c : Thread nD τ) ((Pipeline.ucRefs τ sig) \ Pipeline.arrRefs (τ := τ) spec1) (V2 m outs c) ∗ Er c) ∗ ∃ W, owes (c : Thread nD τ) (D1 c) W) ⊢ _
  rw [StableHlo.held_sub_split (c : Thread nD τ) arr1_S (V3 m outs c),
    StableHlo.held_congr (c : Thread nD τ) (S := (Pipeline.ucRefs τ sig) \ Pipeline.arrRefs (τ := τ) spec1) (rest1_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

-- a library definition stated over `pin pcs a p` unifies with the pinned configuration only when unification may unfold plain
-- definitions in a metavariable's type
set_option backward.isDefEq.respectTransparency.types false in
/-- Region 2 (custom call 2, item 4) from the kernel's run: its arrays held at `V4` in and at `V5` out. Every other held
    buffer, at `V4`, and `Er c` ride; the random-number register goes in and comes out; the core owes `D2 c`. -/
def R2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 2 D2 b) (Er : Dev nD → sProp (MT nD τ sig Ix (Elt F) ℕ U Lvl))
    (hout2_5 : ∀ c : Dev nD, outs 5 main_v5 c = ((pdatsD (U := U) (Lvl := Lvl) m outs 𝒱₀ pdats D1 D2) 2 c).arrAt 5 cfg2.N) :
    RegionSeg (pcfgs (F := F)) adm (pdatsD (U := U) (Lvl := Lvl) m outs 𝒱₀ pdats D1 D2) ι defs₀ 𝒱₀ L lv 2 :=
  Pipeline.RegionSeg.ofHeld (pcfgs (F := F)) adm (pdatsD (U := U) (Lvl := Lvl) m outs 𝒱₀ pdats D1 D2) ι defs₀ 𝒱₀ L lv 2 D2
    (fun c => iprop(∃ r, prngReg c r)) (fun c => iprop(∃ r, prngReg c r))
    launch2.toP rfl
    (fun c => (K2.body_obligation (U := U) (Lvl := Lvl) 𝒱₀ (Ve2 m outs) D2 ι c).loose) (fun _ _ => rfl) (fun _ => rfl)
    (fun c => ((pdatsD (U := U) (Lvl := Lvl) m outs 𝒱₀ pdats D1 D2) 2 c).share_full fun _ => rfl) (fun _ => .rfl) (fun _ => .rfl) b hcut
    (fun c => iprop(StableHlo.held (c : Thread nD τ) ((Pipeline.ucRefs τ sig) \ Pipeline.arrRefs (τ := τ) spec2) (V4 m outs c) ∗ Er c))
    (V4 m outs) (V5 m outs) (fun _ _ => rfl)
    (fun c => fun | 0 => (((pdatsD (U := U) (Lvl := Lvl) m outs 𝒱₀ pdats D1 D2) 2 c).arrAt_in 0 rfl _).trans ((K2.A_eq (U := U) (Lvl := Lvl) 𝒱₀ (Ve2 m outs) D2 c 0).trans (V5_of m outs c (Pipeline.arrRef spec2 0) (by decide)).symm) | 1 => (((pdatsD (U := U) (Lvl := Lvl) m outs 𝒱₀ pdats D1 D2) 2 c).arrAt_in 1 rfl _).trans ((K2.A_eq (U := U) (Lvl := Lvl) 𝒱₀ (Ve2 m outs) D2 c 1).trans (V5_of m outs c (Pipeline.arrRef spec2 1) (by decide)).symm) | 2 => (((pdatsD (U := U) (Lvl := Lvl) m outs 𝒱₀ pdats D1 D2) 2 c).arrAt_in 2 rfl _).trans ((K2.A_eq (U := U) (Lvl := Lvl) 𝒱₀ (Ve2 m outs) D2 c 2).trans (V5_of m outs c (Pipeline.arrRef spec2 2) (by decide)).symm) | 3 => (((pdatsD (U := U) (Lvl := Lvl) m outs 𝒱₀ pdats D1 D2) 2 c).arrAt_in 3 rfl _).trans ((K2.A_eq (U := U) (Lvl := Lvl) 𝒱₀ (Ve2 m outs) D2 c 3).trans (V5_of m outs c (Pipeline.arrRef spec2 3) (by decide)).symm) | 4 => (((pdatsD (U := U) (Lvl := Lvl) m outs 𝒱₀ pdats D1 D2) 2 c).arrAt_in 4 rfl _).trans ((K2.A_eq (U := U) (Lvl := Lvl) 𝒱₀ (Ve2 m outs) D2 c 4).trans (V5_of m outs c (Pipeline.arrRef spec2 4) (by decide)).symm) | 5 => (hout2_5 c).symm.trans (V5_at_main_v5 m outs c).symm | ⟨_ + 6, h⟩ => absurd h (Nat.not_lt.2 (Nat.le_add_left _ _)))

/-- Region 2's entry entailment: the held buffers at `V4` split at its arrays, and the rest state `E 2` sorted (`hEin`). -/
theorem hpre2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEin : ∀ c : Dev nD, E 2 c ⊢ iprop((∃ r, prngReg c r) ∗ (∃ W, owes (c : Thread nD τ) (D2 c) W) ∗ Er c))
    (hout2_5 : ∀ c : Dev nD, outs 5 main_v5 c = ((pdatsD (U := U) (Lvl := Lvl) m outs 𝒱₀ pdats D1 D2) 2 c).arrAt 5 cfg2.N) (c : Dev nD) :
    iprop(StableHlo.held (c : Thread nD τ) (Pipeline.ucRefs τ sig) (V4 m outs c) ∗ E 2 c) ⊢ (R2D m outs 𝒱₀ L lv ι pdats D1 D2 b hcut Er hout2_5).pre c := by
  show _ ⊢ iprop(StableHlo.held (c : Thread nD τ) (Pipeline.arrRefs (τ := τ) spec2) (V4 m outs c) ∗ (∃ r, prngReg c r)
    ∗ (StableHlo.held (c : Thread nD τ) ((Pipeline.ucRefs τ sig) \ Pipeline.arrRefs (τ := τ) spec2) (V4 m outs c) ∗ Er c) ∗ ∃ W, owes (c : Thread nD τ) (D2 c) W)
  rw [StableHlo.held_sub_split (c : Thread nD τ) arr2_S (V4 m outs c)]
  iintro ⟨⟨Ha, Hr⟩, HE⟩
  ihave HE' := (hEin c) $$ HE
  icases HE' with ⟨Hp, HO, Hx⟩
  isplitl [Ha]; · iexact Ha
  isplitl [Hp]; · iexact Hp
  isplitl [Hr Hx]; · isplitl [Hr] <;> iassumption
  iexact HO

/-- Region 2's exit entailment: its arrays at `V5` rejoined with the other held buffers, unchanged (`rest2_eq`), and the rest state
    `E 3` made (`hEout`). -/
theorem hpost2D (m : (ℓ : Loc nD τ sig) → Buf (Elt F) ℓ) (outs : Outs (F := F)) (𝒱₀ : Variants) (L : GSem nD τ sig → Finset Ix) (lv : GSem nD τ sig → Ix → Lvl) (ι : Ix) (pdats : (p : Fin 3) → (c : Dev nD) → Dat τ (Elt F) Ix ℕ U Lvl (cfgs p) c) (D1 : Dev nD → CellTallies nD τ sig Ix) (D2 : Dev nD → CellTallies nD τ sig Ix)
    (b : Dev nD → Lvl) (hcut : Pipeline.LevelCut (pcfgs (F := F)) adm ι L lv 2 D2 b)
    (E : Fin 4 → Dev nD → sProp (MT nD τ sig Ix (Elt F) ℕ U Lvl)) (Er : Dev nD → sProp (MT nD τ sig Ix (Elt F) ℕ U Lvl))
    (hEout : ∀ c : Dev nD, iprop((∃ r, prngReg c r) ∗ (∃ W, owes (c : Thread nD τ) (D2 c) W) ∗ Er c) ⊢ E 3 c)
    (hout2_5 : ∀ c : Dev nD, outs 5 main_v5 c = ((pdatsD (U := U) (Lvl := Lvl) m outs 𝒱₀ pdats D1 D2) 2 c).arrAt 5 cfg2.N) (c : Dev nD) :
    (R2D m outs 𝒱₀ L lv ι pdats D1 D2 b hcut Er hout2_5).post c ⊢ iprop(StableHlo.held (c : Thread nD τ) (Pipeline.ucRefs τ sig) (V5 m outs c) ∗ E 3 c) := by
  show iprop(StableHlo.held (c : Thread nD τ) (Pipeline.arrRefs (τ := τ) spec2) (V5 m outs c) ∗ (∃ r, prngReg c r)
    ∗ (StableHlo.held (c : Thread nD τ) ((Pipeline.ucRefs τ sig) \ Pipeline.arrRefs (τ := τ) spec2) (V4 m outs c) ∗ Er c) ∗ ∃ W, owes (c : Thread nD τ) (D2 c) W) ⊢ _
  rw [StableHlo.held_sub_split (c : Thread nD τ) arr2_S (V5 m outs c),
    StableHlo.held_congr (c : Thread nD τ) (S := (Pipeline.ucRefs τ sig) \ Pipeline.arrRefs (τ := τ) spec2) (rest2_eq m outs c)]
  iintro ⟨Ha, Hp, ⟨Hr, Hx⟩, HO⟩
  isplitl [Ha Hr]; · isplitl [Ha] <;> iassumption
  iapply (hEout c)
  isplitl [Hp]; · iexact Hp
  isplitl [HO]; · iexact HO
  iexact Hx

end

/-! ## The first call's record -/

/-- They are among the held buffers: unscoped. -/
theorem arr0_S : Pipeline.arrRefs (τ := τ) spec0 ⊆ Pipeline.ucRefs τ sig :=
  Pipeline.arrRefs_sub_ucRefs spec0 (by decide)
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

section

variable (m : (ℓ : Loc nD τ sig) → Buf (Elt F) ℓ) (outs : Outs (F := F)) (ρ : Dev nD → PrngReg)

/-- The first call's entry contents. -/
abbrev Ve0 (c : Dev nD) (b : Ref sig .tc) : Buf (Elt F) ((c : Thread nD τ).loc b) := V1 m c (Proc.devRef .tc b)

theorem V2_at_main_v2_0 (c : Dev nD) : V2 m outs c (Proc.devRef .tc main_v2_0) = outs 2 main_v2_0 c := by
  simp only [V2, Function.update_of_ne (StableHlo.devRef_ne_of_ne (by decide : (main_v2_0 : Ref sig .tc) ≠ main_v2_1)), Function.update_self]
theorem V2_at_main_v2_1 (c : Dev nD) : V2 m outs c (Proc.devRef .tc main_v2_1) = outs 2 main_v2_1 c := by
  simp only [V2, Function.update_self]

theorem rest0_eq (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have h0 : b ≠ Proc.devRef .tc main_v2_0 := by rintro rfl; exact hn (by first | exact arr0_mem 1 | decide)
  have h1 : b ≠ Proc.devRef .tc main_v2_1 := by rintro rfl; exact hn (by first | exact arr0_mem 2 | decide)
  simp only [V2, Function.update_of_ne h0, Function.update_of_ne h1]

/-- Nothing is owed while a call runs. -/
abbrev D₀ (_ : Dev nD) : CellTallies nD τ sig Unit := 0

/-- The proof data of the three calls. -/
def pdatsK : (p : Fin 3) → (c : Dev nD) → Dat τ (Elt F) Unit ℕ (UR sig nD τ) ℕ (cfgs p) c
  | ⟨0, _⟩ => fun c => K0.dat (Ve0 m) c
  | ⟨1, _⟩ => fun c => K1.dat Variants.none (Ve1 m outs) D₀ c
  | ⟨2, _⟩ => fun c => K2.dat Variants.none (Ve2 m outs) D₀ c

/-- The same, as the supplied records spell them. -/
abbrev pdatsR : (p : Fin 3) → (c : Dev nD) → Dat τ (Elt F) Unit ℕ (UR sig nD τ) ℕ (cfgs p) c :=
  pdatsD (U := UR sig nD τ) (Lvl := ℕ) m outs Variants.none (pdatsK m outs) D₀ D₀

/-- The index at which credit may be taken: the one index, on the TensorCores. -/
def L (g : GSem nD τ sig) : Finset Unit := if g.1.2 = .tc then {()} else ∅
abbrev lv : GSem nD τ sig → Unit → ℕ := fun _ _ => 0

theorem cut (p : Fin 3) : Pipeline.LevelCut (pcfgs (F := F)) adm () L lv p D₀ (fun _ => (0 : ℕ)) where
  hι := fun c w s => by unfold L; rw [if_pos rfl]; exact Finset.mem_singleton_self ()
  hιb := fun _ _ _ => Nat.le_refl 0
  hD := fun c g i h => absurd h (Nat.lt_irrefl 0)

/-- What rides beside the held buffers between the calls: the generator register and nothing owed. -/
abbrev E (_ : Fin 4) (c : Dev nD) : sProp (MT nD τ sig Unit (Elt F) ℕ (UR sig nD τ) ℕ) :=
  iprop((∃ r, prngReg c r) ∗ (∃ W, owes (c : Thread nD τ) (D₀ c) W) ∗ emp)

set_option backward.isDefEq.respectTransparency.types false in
/-- The first call's record: its arrays held at the contents before it and after it. -/
def R0K (h1 : ∀ c : Dev nD, outs 2 main_v2_0 c = (pdatsR m outs 0 c).arrAt 1 cfg0.N)
    (h2 : ∀ c : Dev nD, outs 2 main_v2_1 c = (pdatsR m outs 0 c).arrAt 2 cfg0.N) :
    RegionSeg (pcfgs (F := F)) adm (pdatsR m outs) () defs₀ Variants.none L lv 0 :=
  Pipeline.RegionSeg.ofHeld (pcfgs (F := F)) adm (pdatsR m outs) () defs₀ Variants.none L lv 0 D₀
    (fun c => iprop(∃ r, prngReg c r)) (fun c => iprop(∃ r, prngReg c r))
    launch0.toP rfl
    (fun c => (K0.body_obligation (Ve0 m) c).loose) (fun _ _ => rfl) (fun _ => rfl)
    (fun c => (pdatsR m outs 0 c).share_full fun _ => rfl) (fun c => K0.hin (Ve0 m) c) (fun c => K0.hout (Ve0 m) c) (fun _ => 0) (cut 0)
    (fun c => iprop(StableHlo.held (c : Thread nD τ) ((Pipeline.ucRefs τ sig) \ Pipeline.arrRefs (τ := τ) spec0) (V1 m c) ∗ emp))
    (V1 m) (V2 m outs) (fun _ _ => rfl)
    (fun c => fun
      | 0 => ((pdatsR m outs 0 c).arrAt_in 0 rfl _).trans ((K0.A_eq (Ve0 m) c 0).trans (V2_of m outs c (Pipeline.arrRef spec0 0) (by decide)).symm)
      | 1 => (h1 c).symm.trans (V2_at_main_v2_0 m outs c).symm
      | 2 => (h2 c).symm.trans (V2_at_main_v2_1 m outs c).symm
      | ⟨_ + 3, h⟩ => absurd h (Nat.not_lt.2 (Nat.le_add_left _ _)))

variable (h1 : ∀ c : Dev nD, outs 2 main_v2_0 c = (pdatsR m outs 0 c).arrAt 1 cfg0.N)
    (h2 : ∀ c : Dev nD, outs 2 main_v2_1 c = (pdatsR m outs 0 c).arrAt 2 cfg0.N)

theorem hpre0K (c : Dev nD) :
    iprop(StableHlo.held (c : Thread nD τ) (Pipeline.ucRefs τ sig) (V1 m c) ∗ E 0 c) ⊢ (R0K m outs h1 h2).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ emp) ∗ ∃ W, owes (c : Thread nD τ) (D₀ c) W)
  rw [StableHlo.held_sub_split (c : Thread nD τ) arr0_S (V1 m c)]
  iintro ⟨⟨Ha, Hr⟩, ⟨Hp, HO, Hx⟩⟩
  isplitl [Ha]; · iexact Ha
  isplitl [Hp]; · iexact Hp
  isplitl [Hr Hx]; · isplitl [Hr] <;> iassumption
  iexact HO

theorem hpost0K (c : Dev nD) :
    (R0K m outs h1 h2).post c ⊢ iprop(StableHlo.held (c : Thread nD τ) (Pipeline.ucRefs τ sig) (V2 m outs c) ∗ E 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ emp) ∗ ∃ W, owes (c : Thread nD τ) (D₀ c) W) ⊢ _
  rw [StableHlo.held_sub_split (c : Thread nD τ) arr0_S (V2 m outs c),
    StableHlo.held_congr (c : Thread nD τ) (S := (Pipeline.ucRefs τ sig) \ Pipeline.arrRefs (τ := τ) spec0) (rest0_eq m outs c)]
  iintro ⟨Ha, Hp, ⟨Hr, Hx⟩, HO⟩
  isplitl [Ha Hr]; · isplitl [Ha] <;> iassumption
  isplitl [Hp]; · iexact Hp
  isplitl [HO]; · iexact HO
  iexact Hx

end

/-! ## What the calls leave, and the run of the whole program -/

section

variable (m : (ℓ : Loc nD τ sig) → Buf (Elt F) ℓ) (ρ : Dev nD → PrngReg)

/-- The contents after the first call. -/
def outsA (c : Dev nD) : Valuation τ sig (Elt F) :=
  Function.update (Function.update (V1 m c) main_v2_0 ((K0.dat (Ve0 m) c).arrAt 1 cfg0.N)) main_v2_1 ((K0.dat (Ve0 m) c).arrAt 2 cfg0.N)

/-- What the calls leave, the first alone given. -/
def outs1 : Outs (F := F) := fun _ r c => outsA m c (Proc.devRef .tc r)

/-- The contents after the second call. -/
def outsB (c : Dev nD) : Valuation τ sig (Elt F) :=
  Function.update (V2 m (outs1 m) c) main_v3 ((K1.dat (Ix := Unit) (U := UR sig nD τ) (Lvl := ℕ) Variants.none (Ve1 m (outs1 m)) D₀ c).arrAt 2 cfg1.N)

/-- What the calls leave, the first two given. -/
def outs2 : Outs (F := F)
  | 2 => outs1 m 2
  | _ => fun r c => outsB m c (Proc.devRef .tc r)

/-- The contents after the third call. -/
def outsC (c : Dev nD) : Valuation τ sig (Elt F) :=
  Function.update (V4 m (outs2 m) c) main_v5 ((K2.dat (Ix := Unit) (U := UR sig nD τ) (Lvl := ℕ) Variants.none (Ve2 m (outs2 m)) D₀ c).arrAt 5 cfg2.N)

/-- What the calls leave. -/
def outs : Outs (F := F)
  | 2 => outs1 m 2
  | 3 => outs2 m 3
  | _ => fun r c => outsC m c (Proc.devRef .tc r)

theorem outs_v2_0 (c : Dev nD) : outs m 2 main_v2_0 c = (K0.dat (Ve0 m) c).arrAt 1 cfg0.N := by
  show outsA m c (Proc.devRef .tc main_v2_0) = _
  unfold outsA
  rw [Function.update_of_ne (StableHlo.devRef_ne_of_ne (by decide : (main_v2_0 : Ref sig .tc) ≠ main_v2_1)), Function.update_self]
theorem outs_v2_1 (c : Dev nD) : outs m 2 main_v2_1 c = (K0.dat (Ve0 m) c).arrAt 2 cfg0.N := by
  show outsA m c (Proc.devRef .tc main_v2_1) = _
  unfold outsA
  rw [Function.update_self]
theorem outs_v3 (c : Dev nD) : outs m 3 main_v3 c
    = (K1.dat (Ix := Unit) (U := UR sig nD τ) (Lvl := ℕ) Variants.none (Ve1 m (outs m)) D₀ c).arrAt 2 cfg1.N := by
  show outsB m c (Proc.devRef .tc main_v3) = _
  unfold outsB
  rw [Function.update_self]
  rfl
theorem outs_v5 (c : Dev nD) : outs m 5 main_v5 c
    = (K2.dat (Ix := Unit) (U := UR sig nD τ) (Lvl := ℕ) Variants.none (Ve2 m (outs m)) D₀ c).arrAt 5 cfg2.N := by
  show outsC m c (Proc.devRef .tc main_v5) = _
  unfold outsC
  rw [Function.update_self]
  rfl

/-- The whole program runs to its end from any memory, and every buffer outside the calls' own ends at the last valuation, every
    semaphore counter at zero. -/
theorem run : θ_run defs (onTc (τ := τ) (main (F := F))) ⟨m, fun _ => 0, ρ⟩ (fun r =>
    (∀ c : Dev nD, ∀ b ∈ Pipeline.ucRefs τ sig, r.2.mem (c, b) = V6 m (outs m) c b) ∧ r.2.sem = fun _ => 0) := by
  refine Pipeline.θ_run_regions_kit_dev_sems (Ix := Unit) (Name := ℕ) (U := UR sig nD τ) (Lvl := ℕ) (pcfgs (F := F)) adm (pdatsR m (outs m)) () cellOf_inj emb₁ defs₀ Variants.none L lv m ρ main
    (segs m (outs m) Variants.none L lv E () (pdatsR m (outs m)) (R0K m (outs m) (outs_v2_0 m) (outs_v2_1 m))
      (R1D m (outs m) Variants.none L lv () (pdatsK m (outs m)) D₀ D₀ (fun _ => 0) (cut 1) (fun _ => iprop(emp)) (outs_v3 m))
      (R2D m (outs m) Variants.none L lv () (pdatsK m (outs m)) D₀ D₀ (fun _ => 0) (cut 2) (fun _ => iprop(emp)) (outs_v5 m)))
    (fun c Q => by
      rewrite [main_chain c, Seg.run_eq_chain,
        show (segs m (outs m) Variants.none L lv E () (pdatsR m (outs m)) (R0K m (outs m) (outs_v2_0 m) (outs_v2_1 m))
          (R1D m (outs m) Variants.none L lv () (pdatsK m (outs m)) D₀ D₀ (fun _ => 0) (cut 1) (fun _ => iprop(emp)) (outs_v3 m))
          (R2D m (outs m) Variants.none L lv () (pdatsK m (outs m)) D₀ D₀ (fun _ => 0) (cut 2) (fun _ => iprop(emp)) (outs_v5 m)) c).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (O₀ := D₀)
    (fun g hg => by unfold L; rw [if_neg hg])
    (G := fun _ => iprop(emp)) (u₀ := initOf (Pipeline.cells cfgs cellOf_inj) (Pipeline.launchToks cfgs cellOf_inj))
    (by
      iintro Hu; imodintro
      isplitl [Hu]
      · iapply (show (ownU _ : sProp (MT nD τ sig Unit (Elt F) ℕ (UR sig nD τ) ℕ)) ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, hpre0K m (outs m) _ _ c,
      (hpost0K m (outs m) _ _ c).trans (hpre1D m (outs m) Variants.none L lv () (pdatsK m (outs m)) D₀ D₀ (fun _ => 0) (cut 1) E (fun _ => iprop(emp)) (fun _ => .rfl) (outs_v3 m) c),
      hpost1D m (outs m) Variants.none L lv () (pdatsK m (outs m)) D₀ D₀ (fun _ => 0) (cut 1) E (fun _ => iprop(emp)) (fun _ => .rfl) (outs_v3 m) c,
      hpre2D m (outs m) Variants.none L lv () (pdatsK m (outs m)) D₀ D₀ (fun _ => 0) (cut 2) E (fun _ => iprop(emp)) (fun _ => .rfl) (outs_v5 m) c,
      hpost2D m (outs m) Variants.none L lv () (pdatsK m (outs m)) D₀ D₀ (fun _ => 0) (cut 2) E (fun _ => iprop(emp)) (fun _ => .rfl) (outs_v5 m) c,
      sep_mono .rfl (by iintro ⟨-, HO, -⟩; iexact HO)⟩)
    (hinit := ?_) (QY := fun c s => ∀ b ∈ Pipeline.ucRefs τ sig, s.mem (c, b) = V6 m (outs m) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    isplitl [HO]; · iexists ∅; iexact HO
    iempintro
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro; exact h
    iexact HSI

theorem mem_uc (r : Ref sig .tc) (h : ¬ (Proc.devRef .tc r : DevRef τ sig).isScoped) :
    (Proc.devRef .tc r : DevRef τ sig) ∈ Pipeline.ucRefs τ sig :=
  Finset.mem_filter.mpr ⟨StableHlo.devRef_mem_tcRefs r, h⟩

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (V6_main_arg0 m (outs m) c),
     (h.1 c _ (mem_uc main_arg1 (by decide))).trans (V6_main_arg1 m (outs m) c),
     (h.1 c _ (mem_uc main_arg2 (by decide))).trans (V6_main_arg2 m (outs m) c),
     (h.1 c _ (mem_uc main_arg3 (by decide))).trans (V6_main_arg3 m (outs m) c)⟩, h.2⟩) (run m ρ)

end

end Cert.KernelIdeal.Own

end
-- ==== Proof.Same.lean ====
/- The kernel and its idealization are one text: a run of the second is a run of the first. -/
module

public import proofs.«01_k».proof.Defs
public import proofs.«01_k».proof.Proof.Gen.Kernel
public import proofs.«01_k».proof.Proof.Calls

@[expose] public section

noncomputable section

namespace Cert.Same

open Idealize.ShloMosaic Idealize.SL.Sem

variable {F : FTy → Type} [FloatOps F]

/-- The three calls, one by one. -/
theorem cfgs_eq : Cert.KernelIdeal.cfgs = Cert.Kernel.cfgs := by
  funext p
  match p with
  | ⟨0, _⟩ => rfl
  | ⟨1, _⟩ => rfl
  | ⟨2, _⟩ => rfl

/-- The three bodies, one by one. -/
theorem defs₀_eq : Cert.KernelIdeal.defs₀ (F := F) = Cert.Kernel.defs₀ (F := F) := by
  refine congrArg Defs.onTc (funext fun l => ?_)
  match l with
  | 0 => rfl
  | 1 => rfl
  | 2 => rfl

open Cert.KernelIdeal in
/-- A run depends on the calls, the bodies and the program alone. -/
theorem transport (cf cf' : Fin 3 → Pipeline.Cfg sig Λ₀) (hc : cf = cf') (d d' : Defs nD τ sig (Elt F) Λ₀) (hd : d = d')
    (p : Dev nD → Prog (TpuEff nD τ sig (Elt F) (Pipeline.Sig Λ₀ (Fin 3) fun p => ((cf p).toPCfg (Val := Elt F)).Adm) .tc) PUnit)
    (p' : Dev nD → Prog (TpuEff nD τ sig (Elt F) (Pipeline.Sig Λ₀ (Fin 3) fun p => ((cf' p).toPCfg (Val := Elt F)).Adm) .tc) PUnit)
    (hp : HEq p p') (s) (Q)
    (h : θ_run (Pipeline.defs (fun p => (cf p).toPCfg) d) (onTc (τ := τ) p) s Q) :
    θ_run (Pipeline.defs (fun p => (cf' p).toPCfg) d') (onTc (τ := τ) p') s Q := by
  subst hc; subst hd; cases hp; exact h

theorem main_eq : HEq (Cert.KernelIdeal.main (F := F)) (Cert.Kernel.main (F := F)) :=
  heq_of_eq (show Cert.KernelIdeal.main (F := F) = Cert.Kernel.main (F := F) from rfl)

/-- The frame of the kernel at the machine's floats. -/
theorem frame : @Cert.quiescent_Kernel Cert.Kernel.Gen.facts := fun m g _ =>
  transport Cert.KernelIdeal.cfgs Cert.Kernel.cfgs cfgs_eq Cert.KernelIdeal.defs₀ Cert.Kernel.defs₀ defs₀_eq
    Cert.KernelIdeal.main Cert.Kernel.main main_eq ⟨m, fun _ => 0, g⟩ _ (Cert.KernelIdeal.Own.frame (F := Bits) m g)

end Cert.Same

end
-- ==== Proof.Scale.lean ====
/- The power-of-two scale. The kernel finds the exponent of `x` by counting the powers of two that are at most `x`, each made from the
   bits of a float, and makes the scale and its inverse from such bits again; the reference takes the logarithm to base two, rounds it
   down, and takes powers of two. Over the extended reals the two exponents are one integer, and so are the scales. -/
module

public import Idealize.ShloMosaic.Lib.Pointwise
public import Mathlib.Analysis.SpecialFunctions.Log.Basic
public import Mathlib.Analysis.SpecialFunctions.Pow.Real

@[expose] public section

noncomputable section

namespace Cert.Scale

open Idealize.ShloMosaic

/-! ## Powers of two as bits -/

/-- The word of exponent field `E`, sign and fraction zero. -/
abbrev word (E : ℕ) : BitVec 32 := BitVec.ofNat 32 (E * 2 ^ 23)

theorem word_fields : ∀ E : Fin 256, ((word E.val).extractLsb' 31 1 == 1#1) = false
    ∧ ((word E.val).extractLsb' 23 8).toNat = E.val ∧ ((word E.val).extractLsb' 0 23).toNat = 0 := by decide +kernel

/-- The float of that word, for the exponent field of a normal number. -/
theorem ofBits_word (E : ℕ) (h1 : 1 ≤ E) (h2 : E ≤ 254) : Ideal.ofBits .f32 (word E) = (((2 : ℝ) ^ ((E : ℤ) - 127) : ℝ) : EReal) := by
  obtain ⟨ha, hb, hc⟩ := word_fields ⟨E, by omega⟩
  dsimp only at ha hb hc
  show Ideal.ieee 8 23 (word E) = _
  unfold Ideal.ieee
  simp only [Nat.reduceAdd, ha, hb, hc]
  rw [if_neg (by norm_num; omega), if_neg (by omega)]
  congr 1
  norm_num
  rw [show ((8388608 : ℝ)) = (2 : ℝ) ^ (23 : ℤ) by norm_num, ← zpow_add₀ (by norm_num : (2 : ℝ) ≠ 0)]
  congr 1
  ring

/-- The kernel's candidate powers. -/
theorem candidate : ∀ k : Fin 256, IntOp.shli ArithUnit.vector (IntOp.addi (IntOp.minsi (BitVec.ofNat 32 k.val) 251#32) 1#32) 23#32
    = word (min k.val 251 + 1) := by decide +kernel

/-- The kernel's candidate exponents. -/
theorem candidate_exponent : ∀ k : Fin 256, (IntOp.subi (IntOp.minsi (BitVec.ofNat 32 k.val) 251#32) 125#32).toInt
    = (min k.val 251 : ℕ) - 125 := by decide +kernel

/-- The bits of the scale. -/
theorem scale_word : ∀ i : Fin 253, IntOp.shli ArithUnit.vector (IntOp.addi (BitVec.ofInt 32 ((i.val : ℤ) - 126)) 127#32) 23#32 = word (i.val + 1) := by
  decide +kernel

/-- The bits of its inverse. -/
theorem inv_word : ∀ i : Fin 253, IntOp.shli ArithUnit.vector (IntOp.addi (IntOp.subi 0#32 (BitVec.ofInt 32 ((i.val : ℤ) - 126))) 127#32) 23#32
    = word (253 - i.val) := by
  decide +kernel

theorem ofBits_scale (e : ℤ) (h1 : -126 ≤ e) (h2 : e ≤ 126) :
    Ideal.ofBits .f32 (IntOp.shli ArithUnit.vector (IntOp.addi (BitVec.ofInt 32 e) 127#32) 23#32) = (((2 : ℝ) ^ e : ℝ) : EReal) := by
  have hw := scale_word ⟨(e + 126).toNat, by omega⟩
  have he : (((e + 126).toNat : ℤ)) - 126 = e := by omega
  dsimp only at hw
  rw [he] at hw
  rw [hw, ofBits_word _ (by omega) (by omega)]
  congr 2
  push_cast
  omega

theorem ofBits_inv (e : ℤ) (h1 : -126 ≤ e) (h2 : e ≤ 126) :
    Ideal.ofBits .f32 (IntOp.shli ArithUnit.vector (IntOp.addi (IntOp.subi 0#32 (BitVec.ofInt 32 e)) 127#32) 23#32) = (((2 : ℝ) ^ (-e) : ℝ) : EReal) := by
  have hw := inv_word ⟨(e + 126).toNat, by omega⟩
  have he : (((e + 126).toNat : ℤ)) - 126 = e := by omega
  dsimp only at hw
  rw [he] at hw
  rw [hw, ofBits_word _ (by omega) (by omega)]
  congr 2
  omega

/-! ## The constants -/

/-- The factor `1 / 57344` as the float the programs hold. -/
theorem factor : ∃ r : ℝ, 0 < r ∧ Ideal.ofBits .f32 932333861#32 = (r : EReal) := by
  refine ⟨(2 ^ 23 + 1198373 : ℕ) * (2 : ℝ) ^ (-39 : ℤ), by positivity, ?_⟩
  simp [Ideal.ofBits, Ideal.ieee, -EReal.coe_mul]
theorem two : Ideal.ofBits .f32 1073741824#32 = ((2 : ℝ) : EReal) := by
  simp [Ideal.ofBits, Ideal.ieee, -EReal.coe_mul]; try norm_num
theorem cap : Ideal.ofBits .f32 1123811328#32 = ((126 : ℝ) : EReal) := by
  simp [Ideal.ofBits, Ideal.ieee, -EReal.coe_mul]; try norm_num
theorem floor' : Ideal.ofBits .f32 3271294976#32 = ((-126 : ℝ) : EReal) := by
  simp [Ideal.ofBits, Ideal.ieee, -EReal.coe_mul]; try norm_num
theorem bot32 : Ideal.ofBits .f32 4286578688#32 = ⊥ := by
  simp [Ideal.ofBits, Ideal.ieee]
theorem bot16 : Ideal.ofBits .bf16 65408#16 = ⊥ := by
  simp [Ideal.ofBits, Ideal.ieee]

/-! ## The exponent -/

/-- The logarithm to base two, rounded down. -/
def log2 (x : ℝ) : ℤ := ⌊Real.log x / Real.log 2⌋

theorem le_log2 (x : ℝ) (hx : 0 < x) (k : ℤ) : (2 : ℝ) ^ k ≤ x ↔ k ≤ log2 x := by
  unfold log2
  rw [Int.le_floor, le_div_iff₀ (Real.log_pos (by norm_num)), ← Real.log_zpow, Real.log_le_log_iff (by positivity) hx]

/-- The exponent of a positive real, held to the normal range. -/
def expo (x : ℝ) : ℤ := min 126 (max (-126) (log2 x + 1))

/-- The greatest candidate is the exponent. -/
theorem count (x : ℝ) (hx : 0 < x) :
    (Finset.univ : Finset (Fin 256)).fold max (-2147483648 : ℤ)
      (fun k => if (2 : ℝ) ^ ((min k.val 251 : ℕ) - 126 : ℤ) ≤ x then ((min k.val 251 : ℕ) : ℤ) - 125 else -126) = expo x := by
  simp only [le_log2 x hx]
  unfold expo
  apply le_antisymm
  · rw [Finset.fold_max_le]
    refine ⟨by omega, fun k _ => ?_⟩
    split <;> omega
  · rw [Finset.le_fold_max]
    right
    by_cases h : log2 x ≤ -127
    · refine ⟨0, Finset.mem_univ _, ?_⟩
      rw [if_neg (by simp; omega)]
      omega
    · refine ⟨⟨min 251 (log2 x + 126).toNat, by omega⟩, Finset.mem_univ _, ?_⟩
      dsimp only
      rw [if_pos (by omega)]
      omega

/-- The kernel's exponent of `x`, a word. -/
def kword (X : EReal) : BitVec 32 :=
  Scalar.select
    (IntOp.ori (BitVec.ofBool (decide (X = 0))) (IntOp.xori (IntOp.xori (FloatOps.weird (F := Ideal) (X : Ideal .f32)) 1#1) 1#1))
    (0#32)
    ((Finset.univ : Finset (Fin 256)).fold IntOp.maxsi (2147483648#32)
      (fun k => if Ideal.ofBits .f32 (IntOp.shli ArithUnit.vector (IntOp.addi (IntOp.minsi (BitVec.ofNat 32 k.val) 251#32) 1#32) 23#32) ≤ X
        then IntOp.subi (IntOp.minsi (BitVec.ofNat 32 k.val) 251#32) 125#32 else 4294967170#32))

/-- The reference's exponent of `x`. -/
def rval (X : EReal) : EReal :=
  Scalar.select
    (IntOp.ori (BitVec.ofBool (decide (X = 0))) (IntOp.xori (IntOp.xori (FloatOps.weird (F := Ideal) (X : Ideal .f32)) 1#1) 1#1))
    0
    (min (Ideal.ofBits .f32 1123811328#32)
      (max (Ideal.ofBits .f32 3271294976#32)
        (Ideal.liftRound Int.floor (Ideal.div (Ideal.log X) (Ideal.log (Ideal.ofBits .f32 1073741824#32))) + 1)))

theorem toInt_maxsi (x y : BitVec 32) : (IntOp.maxsi x y).toInt = max x.toInt y.toInt := by
  unfold IntOp.maxsi
  have h := BitVec.slt_iff_toInt_lt (x := y) (y := x)
  by_cases hc : y.slt x
  · rw [if_pos hc, max_eq_left (h.mp hc).le]
  · rw [if_neg hc, max_eq_right (not_lt.mp fun hl => hc (h.mpr hl))]

/-- The fold of the kernel, at a positive real. -/
theorem kfold (x : ℝ) (hx : 0 < x) :
    ((Finset.univ : Finset (Fin 256)).fold IntOp.maxsi (2147483648#32)
      (fun k => if Ideal.ofBits .f32 (IntOp.shli ArithUnit.vector (IntOp.addi (IntOp.minsi (BitVec.ofNat 32 k.val) 251#32) 1#32) 23#32) ≤ (x : EReal)
        then IntOp.subi (IntOp.minsi (BitVec.ofNat 32 k.val) 251#32) 125#32 else 4294967170#32)) = BitVec.ofInt 32 (expo x) := by
  apply BitVec.eq_of_toInt_eq
  have he : -126 ≤ expo x ∧ expo x ≤ 126 := by unfold expo; omega
  rw [BitVec.toInt_ofInt_eq_self (by norm_num) (by norm_num; omega) (by norm_num; omega), ← count x hx,
    ← Finset.fold_hom (op' := max) (m := BitVec.toInt) (fun a b => toInt_maxsi a b)]
  refine Finset.fold_congr fun k _ => ?_
  have hk : Ideal.ofBits .f32 (IntOp.shli ArithUnit.vector (IntOp.addi (IntOp.minsi (BitVec.ofNat 32 k.val) 251#32) 1#32) 23#32) ≤ (x : EReal)
      ↔ (2 : ℝ) ^ ((min k.val 251 : ℕ) - 126 : ℤ) ≤ x := by
    rw [candidate, ofBits_word _ (by omega) (by omega), EReal.coe_le_coe_iff,
      show (((min k.val 251 + 1 : ℕ) : ℤ) - 127) = ((min k.val 251 : ℕ) : ℤ) - 126 by push_cast; omega]
  by_cases h : (2 : ℝ) ^ ((min k.val 251 : ℕ) - 126 : ℤ) ≤ x
  · rw [if_pos (hk.mpr h), if_pos h]; exact candidate_exponent k
  · rw [if_neg (mt hk.mp h), if_neg h]; rfl

/-- The choice both programs make around the exponent, at a positive real. -/
theorem select_pos {α : Type} (x : ℝ) (hx : 0 < x) (a b : α) :
    Scalar.select (IntOp.ori (BitVec.ofBool (decide ((x : EReal) = 0))) (IntOp.xori (IntOp.xori (FloatOps.weird (F := Ideal) ((x : EReal) : Ideal .f32)) 1#1) 1#1)) a b = b := by
  have h0 : ¬ ((x : EReal) = 0) := by rw [EReal.coe_eq_zero]; exact hx.ne'
  have h1 : ¬ ((x : EReal) = ⊤ ∨ (x : EReal) = ⊥) := by simp
  show Scalar.select (IntOp.ori (BitVec.ofBool (decide ((x : EReal) = 0))) (IntOp.xori (IntOp.xori (BitVec.ofBool (decide ((x : EReal) = ⊤ ∨ (x : EReal) = ⊥))) 1#1) 1#1)) a b = b
  rw [decide_eq_false h0, decide_eq_false h1]
  rfl

theorem select_top {α : Type} (a b : α) :
    Scalar.select (IntOp.ori (BitVec.ofBool (decide ((⊤ : EReal) = 0))) (IntOp.xori (IntOp.xori (FloatOps.weird (F := Ideal) ((⊤ : EReal) : Ideal .f32)) 1#1) 1#1)) a b = a := by
  have h0 : ¬ ((⊤ : EReal) = 0) := by simp
  show Scalar.select (IntOp.ori (BitVec.ofBool (decide ((⊤ : EReal) = 0))) (IntOp.xori (IntOp.xori (BitVec.ofBool (decide ((⊤ : EReal) = ⊤ ∨ (⊤ : EReal) = ⊥))) 1#1) 1#1)) a b = a
  rw [decide_eq_false h0, decide_eq_true (Or.inl rfl)]
  rfl

/-- The reference's exponent, at a positive real. -/
theorem rlog (x : ℝ) (hx : 0 < x) :
    (min (Ideal.ofBits .f32 1123811328#32)
      (max (Ideal.ofBits .f32 3271294976#32)
        (Ideal.liftRound Int.floor (Ideal.div (Ideal.log (x : EReal)) (Ideal.log (Ideal.ofBits .f32 1073741824#32))) + 1))) = ((expo x : ℝ) : EReal) := by
  have hl2 : Real.log 2 ≠ 0 := (Real.log_pos (by norm_num)).ne'
  have e1 : Ideal.log (x : EReal) = (Real.log x : EReal) := by
    show (if x ≤ 0 then ⊥ else (Real.log x : EReal)) = _
    rw [if_neg (not_le.mpr hx)]
  have e2 : Ideal.log ((2 : ℝ) : EReal) = (Real.log 2 : EReal) := by
    show (if (2 : ℝ) ≤ 0 then ⊥ else (Real.log 2 : EReal)) = _
    rw [if_neg (by norm_num)]
  have e3 : Ideal.div (Real.log x : EReal) (Real.log 2 : EReal) = ((Real.log x / Real.log 2 : ℝ) : EReal) := by
    unfold Ideal.div
    rw [if_neg (by rw [EReal.coe_eq_zero]; exact hl2), ← EReal.coe_inv, ← EReal.coe_mul, div_eq_mul_inv]
  have e4 : Ideal.liftRound Int.floor ((Real.log x / Real.log 2 : ℝ) : EReal) = ((log2 x : ℝ) : EReal) := rfl
  rw [two, cap, floor', e1, e2, e3, e4]
  unfold expo
  rw [← EReal.coe_one, ← EReal.coe_add, ← EReal.coe_strictMono.monotone.map_max, ← EReal.coe_strictMono.monotone.map_min]
  congr 1
  push_cast
  rfl

/-- THE EXPONENTS AGREE: at the greatest magnitude `a`, both are one integer of the normal range. -/
theorem agree (a : EReal) (ha : 0 ≤ a) : ∃ e : ℤ, -126 ≤ e ∧ e ≤ 126
    ∧ (if a = 0 then 0#32 else kword (a * Ideal.ofBits .f32 932333861#32)) = BitVec.ofInt 32 e
    ∧ (if a = 0 then 0 else rval (a * Ideal.ofBits .f32 932333861#32)) = ((e : ℝ) : EReal) := by
  obtain ⟨c, hc, hf⟩ := factor
  by_cases h0 : a = 0
  · exact ⟨0, by omega, by omega, by rw [if_pos h0]; rfl, by rw [if_pos h0]; simp⟩
  rw [if_neg h0, if_neg h0, hf]
  induction a with
  | bot => exact absurd ha (by simp)
  | top =>
    rw [EReal.top_mul_coe_of_pos hc]
    exact ⟨0, by omega, by omega, by unfold kword; rw [select_top]; rfl, by unfold rval; rw [select_top]; simp⟩
  | coe r =>
    have hr : 0 < r := lt_of_le_of_ne (by exact_mod_cast ha) fun h => h0 (by rw [← h]; rfl)
    have hx : 0 < r * c := mul_pos hr hc
    rw [← EReal.coe_mul]
    refine ⟨expo (r * c), by unfold expo; omega, by unfold expo; omega, ?_, ?_⟩
    · unfold kword; rw [select_pos _ hx, kfold _ hx]
    · unfold rval; rw [select_pos _ hx, rlog _ hx]

/-- The reference's powers of two. -/
theorem exp2_int (e : ℤ) : Ideal.exp2 ((e : ℝ) : EReal) = (((2 : ℝ) ^ e : ℝ) : EReal) := by
  show ((Real.rpow 2 e : ℝ) : EReal) = _
  congr 1
  exact Real.rpow_intCast 2 e
theorem exp2_neg (e : ℤ) : Ideal.exp2 (0 - ((e : ℝ) : EReal)) = (((2 : ℝ) ^ (-e) : ℝ) : EReal) := by
  rw [← exp2_int, ← EReal.coe_zero, ← EReal.coe_sub]
  congr 2
  push_cast; ring

/-- The kernel's scale, from its exponent word, is the reference's. -/
theorem scale_eq (a : EReal) (ha : 0 ≤ a) :
    Ideal.ofBits .f32 (IntOp.shli ArithUnit.vector (IntOp.addi (if a = 0 then 0#32 else kword (a * Ideal.ofBits .f32 932333861#32)) 127#32) 23#32)
      = Ideal.exp2 (if a = 0 then 0 else rval (a * Ideal.ofBits .f32 932333861#32)) := by
  obtain ⟨e, h1, h2, hk, hr⟩ := agree a ha
  rw [hk, hr, ofBits_scale e h1 h2, exp2_int]

/-- And its inverse. -/
theorem inv_eq (a : EReal) (ha : 0 ≤ a) :
    Ideal.ofBits .f32 (IntOp.shli ArithUnit.vector (IntOp.addi (IntOp.subi 0#32 (if a = 0 then 0#32 else kword (a * Ideal.ofBits .f32 932333861#32))) 127#32) 23#32)
      = Ideal.exp2 (0 - (if a = 0 then 0 else rval (a * Ideal.ofBits .f32 932333861#32))) := by
  obtain ⟨e, h1, h2, hk, hr⟩ := agree a ha
  rw [hk, hr, ofBits_inv e h1 h2, exp2_neg]

end Cert.Scale

end
-- ==== Proof.Spec.lean ====
/- The mathematics of the problem over the extended reals, as functions of arrays: the largest magnitude, the power-of-two scale and
   its inverse, the codes, and the product added to the accumulator. Both programs are proved to compute these. -/
module

public import proofs.«01_k».proof.Proof.Scale

@[expose] public section

noncomputable section

namespace Cert.Spec

open Idealize.ShloMosaic

/-- The index set of an `m` by `n` array. -/
abbrev At (m n : ℕ) : Type := (⟨2, ![m, n]⟩ : Shape).Idx

/-- The magnitude of an extended real. -/
def mag (x : EReal) : EReal := max x (-x)

/-- The largest magnitude of an array. -/
def amax (d : At 3072 4608 → EReal) : EReal :=
  Finset.fold max ⊥ (fun x : Fin 3072 × Fin 4608 => mag (d (ix2 x.1 x.2))) Finset.univ

/-- The exponent of the scale: of the largest magnitude over 57344, zero when there is none. -/
def exponent (d : At 3072 4608 → EReal) : EReal :=
  if amax d = 0 then 0 else Scale.rval (amax d * Ideal.ofBits .f32 932333861#32)

/-- The scale. -/
def scale (d : At 3072 4608 → EReal) : EReal := Ideal.exp2 (exponent d)

/-- Its inverse. -/
def inv (d : At 3072 4608 → EReal) : EReal := Ideal.exp2 (0 - exponent d)

/-- A code: the scaled value, held to the range of the format. -/
def code (x s : EReal) : EReal := min (Ideal.ofBits .f32 1197473792#32) (max (Ideal.ofBits .f32 3344957440#32) (x * s))

/-- The codes of an array. -/
def codes (d : At 3072 4608 → EReal) : At 3072 4608 → EReal := fun i => code (d i) (inv d)

/-- The accumulator plus the rescaled product: `acc + (xᵀ q) (x_scale dy_scale)`. -/
def product (acc : At 8192 4608 → EReal) (x : At 3072 8192 → EReal) (q : At 3072 4608 → EReal) (xs ds : EReal) : At 8192 4608 → EReal :=
  fun i => acc i + (∑ k : Fin 3072, x (ix2 k (i 0)) * q (ix2 k (i 1))) * (xs * ds)

/-! ## The order facts -/

theorem mag_nonneg (x : EReal) : 0 ≤ mag x := by
  unfold mag
  rcases le_total 0 x with h | h
  · exact le_max_of_le_left h
  · exact le_max_of_le_right (by rw [← neg_zero]; exact EReal.neg_le_neg_iff.mpr h)

theorem amax_le (d : At 3072 4608 → EReal) (b : EReal) : amax d ≤ b ↔ ∀ (r : Fin 3072) (j : Fin 4608), mag (d (ix2 r j)) ≤ b := by
  unfold amax
  rw [Finset.fold_max_le]
  simp only [bot_le, true_and, Finset.mem_univ, forall_true_left, Prod.forall]

theorem amax_nonneg (d : At 3072 4608 → EReal) : 0 ≤ amax d :=
  have h := (amax_le d (amax d)).mp le_rfl ⟨0, by norm_num⟩ ⟨0, by norm_num⟩
  le_trans (mag_nonneg _) h

/-- Two indices of equal coordinates are one. -/
theorem idx_ext {n0 n1 : ℕ} (i j : At n0 n1) (h0 : (i 0).val = (j 0).val) (h1 : (i 1).val = (j 1).val) : i = j := by
  funext a
  match a with
  | ⟨0, _⟩ => exact Fin.ext h0
  | ⟨1, _⟩ => exact Fin.ext h1

/-- A 1x1 array has one index. -/
theorem one (i j : At 1 1) : i = j := by
  funext a
  match a with
  | ⟨0, _⟩ => exact Subsingleton.elim (α := Fin 1) _ _
  | ⟨1, _⟩ => exact Subsingleton.elim (α := Fin 1) _ _

theorem zero2 : (![0, 0] : Fin 2 → ℕ) = fun _ => 0 := by
  funext a; match a with | ⟨0, _⟩ => rfl | ⟨1, _⟩ => rfl

end Cert.Spec

end
-- ==== Proof.Payloads.lean ====
/- What each store of the kernel writes, read at an index over the extended reals. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Own

open Idealize.ShloMosaic Idealize.SL.Sem
open Cert.KernelIdeal Cert.KernelIdeal.Gen

/-- The row of column maxima starts at zero. -/
theorem zero_apply (j : S1x4608.Idx) : k0_pay1 (F := Ideal) j = 0 := by
  pointwise [k0_pay1]

/-- A grid point raises each column's maximum by the magnitudes of its block. -/
theorem step_apply (v3 : Vec Ideal S384x4608 .bf16) (v6 : Vec Ideal S1x4608 .bf16) (r : Fin 1) (j : Fin 4608) :
    k0_pay2 v3 v6 (ix2 r j) = max (v6 (ix2 r j)) (Finset.fold max ⊥ (fun x : Fin 384 => max (v3 (ix2 x j)) (-(v3 (ix2 x j)))) Finset.univ) := by
  rw [← Scale.bot16]
  pointwise [k0_pay2]
  rfl

/-- The largest entry of a row. -/
def top (v : Vec Ideal S1x4608 .bf16) : EReal := Finset.fold max ⊥ (fun x : Fin 4608 => v (ix2 0 x)) Finset.univ

/-- The exponent word. -/
theorem exponent_apply (v : Vec Ideal S1x4608 .bf16) (r s : Fin 1) :
    k0_pay4 v (ix2 r s) = if top v = 0 then 0#32 else Scale.kword (top v * Ideal.ofBits .f32 932333861#32) := by
  unfold top Scale.kword
  rw [← Scale.bot32]
  pointwise [k0_pay4]

/-- The scale, from the exponent word's bits. -/
theorem scale_apply (v : Vec Ideal S1x4608 .bf16) (r s : Fin 1) :
    k0_pay5 v (ix2 r s) = Ideal.ofBits .f32 (IntOp.shli ArithUnit.vector (IntOp.addi (k0_pay4 v (ix2 r s)) 127#32) 23#32) := by
  pointwise [k0_pay5]

/-- Its inverse. -/
theorem inv_apply (v : IVec S1x1 32) (r s : Fin 1) :
    k0_pay3 (F := Ideal) v (ix2 r s) = Ideal.ofBits .f32 (IntOp.shli ArithUnit.vector (IntOp.addi (IntOp.subi 0#32 (v (ix2 r s))) 127#32) 23#32) := by
  pointwise [k0_pay3]

/-- A code. -/
theorem code_apply (v0 : Vec Ideal S384x4608 .bf16) (v3 : Vec Ideal S1x1 .f32) (r : Fin 384) (s : Fin 4608) :
    k1_pay1 (F := Ideal) v0 v3 (ix2 r s) = Spec.code (v0 (ix2 r s)) (v3 (ix2 0 0)) := by
  unfold Spec.code
  pointwise [k1_pay1]

/-- A block of the product: the accumulator's block plus the rescaled contraction over the rows. -/
theorem product_apply (v0 : Vec Ideal S3072x512 .fp8e4m3) (v2 : Vec Ideal S3072x4608 .fp8e5m2) (v5 : Vec Ideal S512x4608 .f32)
    (v6 : Elt Ideal .f32) (v7 : Elt Ideal .f32) (r : Fin 512) (s : Fin 4608) :
    k2_pay1 (F := Ideal) v0 v2 v5 v6 v7 (ix2 r s) = v5 (ix2 r s) + (∑ x : Fin 3072, v0 (ix2 x r) * v2 (ix2 x s)) * (v6 * v7) := by
  pointwise [k2_pay1]

end Cert.KernelIdeal.Own

end
-- ==== Proof.Array0.lean ====
/- The first call's results: the scale and its inverse, made once, at the last grid point, from the row of column maxima. -/
module

public import proofs.«01_k».proof.Proof.Region0
public import proofs.«01_k».proof.Proof.Spec
public import Idealize.ShloMosaic.Lib.Pipeline.Value

@[expose] public section

set_option maxRecDepth 16384

noncomputable section

namespace Cert.KernelIdeal.Own.K0

open Cert.KernelIdeal Cert.KernelIdeal.Gen
open Cert.Spec (one)
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The row after the last point. -/
def lastRow (c : Dev nD) : Vec F S1x4608 .bf16 := row V c 7 (lt_of_lt_of_eq (by decide) N_0.symm)

theorem row_eq_last (c : Dev nD) (t : Fin cfg0.N) (h : t.val % 8 = 7) : row V c t.val t.isLt = lastRow V c := by
  have hN : t.val < 8 := lt_of_lt_of_eq t.isLt N_0
  obtain ⟨n, hn⟩ := t
  dsimp only at h hN
  obtain rfl : n = 7 := by omega
  rfl

theorem lastPt : (7 : ℕ) < cfg0.N := lt_of_lt_of_eq (by decide) N_0.symm

theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = 0 ∧ win0_2.index t (1 : Fin 2) = 0 := (by decide +kernel : ∀ t : Fin grid0.N, _)

theorem mem_blk1 (t : Fin cfg0.N) (i : S1x1.Idx) : i ∈ ((cfg0.win 1).blk t).view.set := by
  show i ∈ ((View.whole main_v2_0).slice (win0_1.rect t)).set
  rw [View.set_slice_whole, Rect.mem_set_unit]
  obtain ⟨e0, e1⟩ := index1 t
  intro a
  match a with
  | ⟨0, _⟩ => show win0_1.index t (0 : Fin 2) * 1 ≤ (i 0).val ∧ (i 0).val < win0_1.index t (0 : Fin 2) * 1 + 1; have := (i 0).isLt; have h : (i 0).val < 1 := this; omega
  | ⟨1, _⟩ => show win0_1.index t (1 : Fin 2) * 1 ≤ (i 1).val ∧ (i 1).val < win0_1.index t (1 : Fin 2) * 1 + 1; have h : (i 1).val < 1 := (i 1).isLt; omega

theorem mem_blk2 (t : Fin cfg0.N) (i : S1x1.Idx) : i ∈ ((cfg0.win 2).blk t).view.set := by
  show i ∈ ((View.whole main_v2_1).slice (win0_2.rect t)).set
  rw [View.set_slice_whole, Rect.mem_set_unit]
  obtain ⟨e0, e1⟩ := index2 t
  intro a
  match a with
  | ⟨0, _⟩ => show win0_2.index t (0 : Fin 2) * 1 ≤ (i 0).val ∧ (i 0).val < win0_2.index t (0 : Fin 2) * 1 + 1; have h : (i 0).val < 1 := (i 0).isLt; omega
  | ⟨1, _⟩ => show win0_2.index t (1 : Fin 2) * 1 ≤ (i 1).val ∧ (i 1).val < win0_2.index t (1 : Fin 2) * 1 + 1; have h : (i 1).val < 1 := (i 1).isLt; omega

/-- THE SCALE the first call leaves. -/
theorem scale_final (c : Dev nD) : (dat V c).arrAt 1 cfg0.N = (k0_pay5 (lastRow V c) : S1x1.Idx → F .f32) :=
  (dat V c).arrAt_eq_of_cover 1 _ (fun t hf => by
    show (cfg0.win 1).cut (grid0.coords t) ((dat V c).after 1 t) = _
    rw [after0_1, row_eq_last V c t ((flush0_1 t).mp hf)]
    funext y
    show k0_pay5 (lastRow V c) ((cfg0.win 1).xinj (grid0.coords t) y) = k0_pay5 (lastRow V c) (((cfg0.win 1).blk t).view.emb y)
    exact congrArg _ (one _ _))
    (fun i => ⟨⟨7, lastPt⟩, (flush0_1 _).mpr rfl, mem_blk1 _ i⟩)

/-- ITS INVERSE. -/
theorem inv_final (c : Dev nD) : (dat V c).arrAt 2 cfg0.N = (k0_pay3 (F := F) (k0_pay4 (lastRow V c)) : S1x1.Idx → F .f32) :=
  (dat V c).arrAt_eq_of_cover 2 _ (fun t hf => by
    show (cfg0.win 2).cut (grid0.coords t) ((dat V c).after 2 t) = _
    rw [after0_2, row_eq_last V c t ((flush0_2 t).mp hf)]
    funext y
    show k0_pay3 (F := F) (k0_pay4 (lastRow V c)) ((cfg0.win 2).xinj (grid0.coords t) y) = k0_pay3 (F := F) (k0_pay4 (lastRow V c)) (((cfg0.win 2).blk t).view.emb y)
    exact congrArg _ (one _ _))
    (fun i => ⟨⟨7, lastPt⟩, (flush0_2 _).mpr rfl, mem_blk2 _ i⟩)

end Cert.KernelIdeal.Own.K0

end
-- ==== Proof.Amax.lean ====
/- The largest magnitude: the kernel's row of column maxima, built block by block, has as its largest entry the largest magnitude
   of the whole array. -/
module

public import proofs.«01_k».proof.Proof.Array0
public import proofs.«01_k».proof.Proof.Payloads

@[expose] public section

set_option maxRecDepth 16384

noncomputable section

namespace Cert.KernelIdeal.Own.K0

open Cert.KernelIdeal Cert.KernelIdeal.Gen
open Cert.Spec (mag mag_nonneg amax amax_le amax_nonneg)
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem index0 : ∀ t : Fin cfg0.N, win0_0.index t (0 : Fin 2) = t.val ∧ win0_0.index t (1 : Fin 2) = 0 := (by decide +kernel : ∀ t : Fin grid0.N, _)

/-- Block `t` is rows `384 t` to `384 t + 383`. -/
theorem block_apply (c : Dev nD) (t : Fin cfg0.N) (x : Fin 384) (j : Fin 4608) (h : t.val * 384 + x.val < 3072) :
    iblk V c 0 t (ix2 x j) = V c main_v1 (ix2 (⟨t.val * 384 + x.val, h⟩ : Fin 3072) j) := by
  obtain ⟨e0, e1⟩ := index0 t
  show V c main_v1 (((cfg0.win 0).blk t).view.emb (ix2 x j)) = _
  refine congrArg (V c main_v1) ?_
  funext a
  apply Fin.ext
  match a with
  | ⟨0, _⟩ => show win0_0.index t (0 : Fin 2) * 384 + 1 * x.val = t.val * 384 + x.val; rw [e0]; omega
  | ⟨1, _⟩ => show win0_0.index t (1 : Fin 2) * 4608 + 1 * j.val = j.val; rw [e1]; omega

/-- The largest magnitude of a block's column. -/
theorem column_le (v : Vec Ideal S384x4608 .bf16) (j : Fin 4608) (b : EReal) :
    Finset.fold max ⊥ (fun x : Fin 384 => max (v (ix2 x j)) (-(v (ix2 x j)))) Finset.univ ≤ b ↔ ∀ x : Fin 384, mag (v (ix2 x j)) ≤ b := by
  unfold mag
  rw [Finset.fold_max_le]
  exact ⟨fun h x => h.2 x (Finset.mem_univ _), fun h => ⟨bot_le, fun x _ => h x⟩⟩

/-- AFTER POINT `n` the row's entry `j` bounds exactly the magnitudes of column `j` in the rows seen so far. -/
theorem row_le (c : Dev nD) (j : Fin 4608) (b : EReal) : ∀ (n : ℕ) (hn : n < cfg0.N),
    row V c n hn (ix2 0 j) ≤ b ↔ 0 ≤ b ∧ ∀ r : Fin 3072, r.val < (n + 1) * 384 → mag (V c main_v1 (ix2 r j)) ≤ b := by
  have blockle : ∀ (n : ℕ) (hn : n < cfg0.N), (∀ x : Fin 384, mag (iblk V c 0 ⟨n, hn⟩ (ix2 x j)) ≤ b)
      ↔ ∀ r : Fin 3072, n * 384 ≤ r.val → r.val < (n + 1) * 384 → mag (V c main_v1 (ix2 r j)) ≤ b := by
    intro n hn
    have hN : n < 8 := lt_of_lt_of_eq hn N_0
    constructor
    · intro h r h1 h2
      have hx := h ⟨r.val - n * 384, by omega⟩
      rw [block_apply V c ⟨n, hn⟩ ⟨r.val - n * 384, by omega⟩ j (by dsimp only; omega)] at hx
      have e : (⟨n * 384 + (r.val - n * 384), by omega⟩ : Fin 3072) = r := Fin.ext (by dsimp only; omega)
      dsimp only at hx
      rw [e] at hx
      exact hx
    · intro h x
      rw [block_apply V c ⟨n, hn⟩ x j (by dsimp only; omega)]
      exact h _ (by dsimp only; omega) (by dsimp only; omega)
  intro n
  induction n with
  | zero =>
    intro hn
    show k0_pay2 (iblk V c 0 ⟨0, hn⟩) (k0_pay1 (F := Ideal)) (ix2 0 j) ≤ b ↔ _
    rw [step_apply, zero_apply, max_le_iff, column_le, blockle 0 hn]
    exact and_congr_right fun _ => ⟨fun h r hr => h r (by omega) hr, fun h r _ hr => h r hr⟩
  | succ n ih =>
    intro hn
    show k0_pay2 (iblk V c 0 ⟨n + 1, hn⟩) (row V c n (Nat.lt_of_succ_lt hn)) (ix2 0 j) ≤ b ↔ _
    rw [step_apply, max_le_iff, column_le, blockle (n + 1) hn, ih]
    constructor
    · rintro ⟨⟨h0, h1⟩, h2⟩
      exact ⟨h0, fun r hr => if h : r.val < (n + 1) * 384 then h1 r h else h2 r (by omega) hr⟩
    · rintro ⟨h0, h1⟩
      exact ⟨⟨h0, fun r hr => h1 r (lt_of_lt_of_le hr (Nat.mul_le_mul_right 384 (Nat.le_succ _)))⟩, fun r _ hr => h1 r hr⟩

/-- THE LARGEST ENTRY of the last row is the largest magnitude of the array. -/
theorem top_lastRow (c : Dev nD) : top (lastRow V c) = amax (V c main_v1) := by
  have hr (j : Fin 4608) (b : EReal) : lastRow V c (ix2 0 j) ≤ b ↔ _ := row_le V c j b 7 lastPt
  have key : ∀ b, top (lastRow V c) ≤ b ↔ amax (V c main_v1) ≤ b := by
    intro b
    rw [amax_le]
    unfold top
    rw [Finset.fold_max_le]
    constructor
    · rintro ⟨-, h⟩ r j
      exact ((hr j b).mp (h j (Finset.mem_univ _))).2 r (by have := r.isLt; omega)
    · intro h
      exact ⟨bot_le, fun j _ => (hr j b).mpr ⟨le_trans (mag_nonneg _) (h ⟨0, by norm_num⟩ j), fun r _ => h r j⟩⟩
  exact le_antisymm ((key _).mpr le_rfl) ((key _).mp le_rfl)

end Cert.KernelIdeal.Own.K0

end
-- ==== Proof.Array1.lean ====
/- The second call's result: the codes, each entry from the entry of dy at its index and the inverse scale. -/
module

public import proofs.«01_k».proof.Proof.Region1
public import proofs.«01_k».proof.Proof.Payloads
public import Idealize.ShloMosaic.Lib.Pipeline.Value
public import Idealize.ShloMosaic.Lib.Pipeline.ValueKit.Acc

@[expose] public section

set_option maxRecDepth 16384

noncomputable section

namespace Cert.KernelIdeal.Own.K1

open Cert.KernelIdeal Cert.KernelIdeal.Gen
open Cert.Spec (code)
open Idealize.ShloMosaic Idealize.ShloMosaic.TcCoe
open Idealize.SL Idealize.SL.RA Idealize.SL.Sem
open Idealize.ShloMosaic.Pipeline (Dat Cfg Window)

variable {Ix : Type} [DecidableEq Ix] {U : Type} [URA U] {Lvl : Type} [Preorder Lvl]
variable (𝒱₀ : Variants)

section
variable {F : FTy → Type} [FloatOps F]
/-- What a point stores. -/
theorem out_eq (c : Dev nD) (i : grid1.Coords) (arg1 : Memref sig .tc .vmem S1x1 .f32) (harg1 : arg1.IsWhole) (arg2 : Memref sig .tc .vmem S384x4608 .bf16) (harg2 : arg2.IsWhole) (arg3 : Memref sig .tc .vmem S384x4608 .fp8e5m2) (harg3 : arg3.IsWhole)
    (x0 : Vec F S1x1 .f32) (x1 : Vec F S384x4608 .bf16) :
    out1_A_2 (Ix := Ix) (U := U) (Lvl := Lvl) 𝒱₀ c i arg1 harg1 arg2 harg2 arg3 harg3 x0 x1 = k1_pay1 x1 x0 := by
  unfold out1_A_2
  frame_out
end

theorem index : ∀ t : Fin cfg1.N, (win1_2.index t (0 : Fin 2) = t.val ∧ win1_2.index t (1 : Fin 2) = 0) ∧ (win1_1.index t (0 : Fin 2) = t.val ∧ win1_1.index t (1 : Fin 2) = 0)
    ∧ win1_0.index t (0 : Fin 2) = 0 ∧ win1_0.index t (1 : Fin 2) = 0 := (by decide +kernel : ∀ t : Fin grid1.N, _)

theorem mem_blk (t : Fin cfg1.N) (i : S3072x4608.Idx) : i ∈ ((cfg1.win 2).blk t).view.set ↔ t.val * 384 ≤ (i 0).val ∧ (i 0).val < t.val * 384 + 384 := by
  show i ∈ ((View.whole main_v3).slice (win1_2.rect t)).set ↔ _
  rw [View.set_slice_whole, Rect.mem_set_unit]
  obtain ⟨⟨e0, e1⟩, -⟩ := index t
  constructor
  · intro h
    have h0 : win1_2.index t (0 : Fin 2) * 384 ≤ (i 0).val ∧ (i 0).val < win1_2.index t (0 : Fin 2) * 384 + 384 := h 0
    omega
  · intro h a
    match a with
    | ⟨0, _⟩ => show win1_2.index t (0 : Fin 2) * 384 ≤ (i 0).val ∧ (i 0).val < win1_2.index t (0 : Fin 2) * 384 + 384; omega
    | ⟨1, _⟩ => show win1_2.index t (1 : Fin 2) * 4608 ≤ (i 1).val ∧ (i 1).val < win1_2.index t (1 : Fin 2) * 4608 + 4608; have h : (i 1).val < 4608 := (i 1).isLt; omega

variable (V : (c : Dev nD) → (b : Ref sig .tc) → Buf (Elt Ideal) ((c : Thread nD τ).loc b)) (D : Dev nD → CellTallies nD τ sig Ix)

/-- The codes, from the inverse scale the call is given. -/
def codesOf (c : Dev nD) : S3072x4608.Idx → EReal := fun i => code (V c main_v1 i) (V c main_v2_1 (ix2 0 0))

/-- THE CODES the second call leaves. -/
theorem codes_final (c : Dev nD) : (dat (Ix := Ix) (U := U) (Lvl := Lvl) 𝒱₀ V D c).arrAt 2 cfg1.N = codesOf V c :=
  (dat (Ix := Ix) (U := U) (Lvl := Lvl) 𝒱₀ V D c).arrAt_eq_of_cover 2 _ (fun t _ => by
    show (cfg1.win 2).cut (grid1.coords t) ((dat (Ix := Ix) (U := U) (Lvl := Lvl) 𝒱₀ V D c).after 2 t) = _
    rw [after1_2]
    unfold outsAt1
    rw [out_eq]
    obtain ⟨⟨e0, e1⟩, ⟨e2, e3⟩, e4, e5⟩ := index t
    funext y
    have hy0 : (y 0).val < 384 := (y 0).isLt
    have hy1 : (y 1).val < 4608 := (y 1).isLt
    show k1_pay1 (F := Ideal) (iblk V c 1 t) (iblk V c 0 t) (ix2 (⟨(y 0).val, hy0⟩ : Fin 384) (⟨(y 1).val, hy1⟩ : Fin 4608)) = codesOf V c (((cfg1.win 2).blk t).view.emb y)
    rw [code_apply]
    unfold codesOf
    show code (V c main_v1 (((cfg1.win 1).blk t).view.emb (ix2 (⟨(y 0).val, hy0⟩ : Fin 384) (⟨(y 1).val, hy1⟩ : Fin 4608)))) (V c main_v2_1 (((cfg1.win 0).blk t).view.emb (ix2 0 0))) = _
    congr 2
    · funext a
      apply Fin.ext
      match a with
      | ⟨0, _⟩ => show win1_1.index t (0 : Fin 2) * 384 + 1 * (y 0).val = win1_2.index t (0 : Fin 2) * 384 + 1 * (y 0).val; rw [e0, e2]
      | ⟨1, _⟩ => show win1_1.index t (1 : Fin 2) * 4608 + 1 * (y 1).val = win1_2.index t (1 : Fin 2) * 4608 + 1 * (y 1).val; rw [e1, e3]
    · funext a
      apply Fin.ext
      match a with
      | ⟨0, _⟩ => show win1_0.index t (0 : Fin 2) * 1 + 1 * 0 = 0; rw [e4]
      | ⟨1, _⟩ => show win1_0.index t (1 : Fin 2) * 1 + 1 * 0 = 0; rw [e5])
    (fun i => by
      have h : (i 0).val < 3072 := (i 0).isLt
      refine ⟨⟨(i 0).val / 384, lt_of_lt_of_eq (by omega) N_1.symm⟩, flush1_2 _, (mem_blk _ i).mpr ?_⟩
      dsimp only
      omega)

end Cert.KernelIdeal.Own.K1

end
-- ==== Proof.Array2.lean ====
/- The third call's result: the accumulator plus the rescaled product of the two code arrays, at every index. -/
module

public import proofs.«01_k».proof.Proof.Region2
public import proofs.«01_k».proof.Proof.Payloads
public import Idealize.ShloMosaic.Lib.Pipeline.Value
public import Idealize.ShloMosaic.Lib.Pipeline.ValueKit.Acc

@[expose] public section

set_option maxRecDepth 16384

noncomputable section

namespace Cert.KernelIdeal.Own.K2

open Cert.KernelIdeal Cert.KernelIdeal.Gen
open Cert.Spec (product idx_ext one)
open Idealize.ShloMosaic Idealize.ShloMosaic.TcCoe
open Idealize.SL Idealize.SL.RA Idealize.SL.Sem
open Idealize.ShloMosaic.Pipeline (Dat Cfg Window)

variable {Ix : Type} [DecidableEq Ix] {U : Type} [URA U] {Lvl : Type} [Preorder Lvl]
variable (𝒱₀ : Variants)

section
variable {F : FTy → Type} [FloatOps F]
/-- What a point stores. -/
theorem out_eq (c : Dev nD) (i : grid2.Coords) (arg1 : Memref sig .tc .smem S1x1 .f32) (harg1 : arg1.IsWhole) (arg2 : Memref sig .tc .smem S1x1 .f32) (harg2 : arg2.IsWhole) (arg3 : Memref sig .tc .vmem S3072x512 .fp8e4m3) (harg3 : arg3.IsWhole) (arg4 : Memref sig .tc .vmem S3072x4608 .fp8e5m2) (harg4 : arg4.IsWhole) (arg5 : Memref sig .tc .vmem S512x4608 .f32) (harg5 : arg5.IsWhole) (arg6 : Memref sig .tc .vmem S512x4608 .f32) (harg6 : arg6.IsWhole)
    (x0 : Vec F S1x1 .f32) (x1 : Vec F S1x1 .f32) (x2 : Vec F S3072x512 .fp8e4m3) (x3 : Vec F S3072x4608 .fp8e5m2) (x4 : Vec F S512x4608 .f32) :
    out2_A_5 (Ix := Ix) (U := U) (Lvl := Lvl) 𝒱₀ c i arg1 harg1 arg2 harg2 arg3 harg3 arg4 harg4 arg5 harg5 arg6 harg6 x0 x1 x2 x3 x4
      = k2_pay1 x2 x3 x4 (x0 (ix2 0 0)) (x1 (ix2 0 0)) := by
  unfold out2_A_5
  frame_out
  have hz : (![0, 0] : Fin 2 → ℕ) = fun _ => 0 := by funext a; match a with | ⟨0, _⟩ => rfl | ⟨1, _⟩ => rfl
  rw [View.ld_unit_zero hz, View.ld_unit_zero hz]
  exact congrArg₂ (k2_pay1 x2 x3 x4) (congrArg x0 (one _ _)) (congrArg x1 (one _ _))
end

theorem index : ∀ t : Fin cfg2.N, (win2_5.index t (0 : Fin 2) = t.val ∧ win2_5.index t (1 : Fin 2) = 0) ∧ (win2_4.index t (0 : Fin 2) = t.val ∧ win2_4.index t (1 : Fin 2) = 0)
    ∧ (win2_3.index t (0 : Fin 2) = 0 ∧ win2_3.index t (1 : Fin 2) = 0) ∧ (win2_2.index t (0 : Fin 2) = 0 ∧ win2_2.index t (1 : Fin 2) = t.val)
    ∧ (win2_1.index t (0 : Fin 2) = 0 ∧ win2_1.index t (1 : Fin 2) = 0) ∧ win2_0.index t (0 : Fin 2) = 0 ∧ win2_0.index t (1 : Fin 2) = 0 :=
  (by decide +kernel : ∀ t : Fin grid2.N, _)

theorem mem_blk (t : Fin cfg2.N) (i : S8192x4608.Idx) : i ∈ ((cfg2.win 5).blk t).view.set ↔ t.val * 512 ≤ (i 0).val ∧ (i 0).val < t.val * 512 + 512 := by
  show i ∈ ((View.whole main_v5).slice (win2_5.rect t)).set ↔ _
  rw [View.set_slice_whole, Rect.mem_set_unit]
  obtain ⟨⟨e0, e1⟩, -⟩ := index t
  constructor
  · intro h
    have h0 : win2_5.index t (0 : Fin 2) * 512 ≤ (i 0).val ∧ (i 0).val < win2_5.index t (0 : Fin 2) * 512 + 512 := h 0
    omega
  · intro h a
    match a with
    | ⟨0, _⟩ => show win2_5.index t (0 : Fin 2) * 512 ≤ (i 0).val ∧ (i 0).val < win2_5.index t (0 : Fin 2) * 512 + 512; omega
    | ⟨1, _⟩ => show win2_5.index t (1 : Fin 2) * 4608 ≤ (i 1).val ∧ (i 1).val < win2_5.index t (1 : Fin 2) * 4608 + 4608; have h : (i 1).val < 4608 := (i 1).isLt; omega

variable (V : (c : Dev nD) → (b : Ref sig .tc) → Buf (Elt Ideal) ((c : Thread nD τ).loc b)) (D : Dev nD → CellTallies nD τ sig Ix)

/-- THE PRODUCT the third call leaves. -/
theorem product_final (c : Dev nD) : (dat (Ix := Ix) (U := U) (Lvl := Lvl) 𝒱₀ V D c).arrAt 5 cfg2.N
    = product (V c main_arg3) (V c main_v0) (V c main_v3) (V c main_v4 (ix2 0 0)) (V c main_v2_0 (ix2 0 0)) :=
  (dat (Ix := Ix) (U := U) (Lvl := Lvl) 𝒱₀ V D c).arrAt_eq_of_cover 5 _ (fun t _ => by
    show (cfg2.win 5).cut (grid2.coords t) ((dat (Ix := Ix) (U := U) (Lvl := Lvl) 𝒱₀ V D c).after 5 t) = _
    rw [after2_5]
    unfold outsAt2
    rw [out_eq]
    obtain ⟨⟨e50, e51⟩, ⟨e40, e41⟩, ⟨e30, e31⟩, ⟨e20, e21⟩, ⟨e10, e11⟩, e00, e01⟩ := index t
    funext y
    have hy0 : (y 0).val < 512 := (y 0).isLt
    have hy1 : (y 1).val < 4608 := (y 1).isLt
    have hx : (cfg2.win 5).xinj (grid2.coords t) y = ix2 (⟨(y 0).val, hy0⟩ : Fin 512) (⟨(y 1).val, hy1⟩ : Fin 4608) := idx_ext _ _ rfl rfl
    show k2_pay1 (F := Ideal) (iblk V c 2 t) (iblk V c 3 t) (iblk V c 4 t) (iblk V c 0 t (ix2 0 0)) (iblk V c 1 t (ix2 0 0))
      ((cfg2.win 5).xinj (grid2.coords t) y) = product (V c main_arg3) (V c main_v0) (V c main_v3) (V c main_v4 (ix2 0 0)) (V c main_v2_0 (ix2 0 0)) (((cfg2.win 5).blk t).view.emb y)
    rw [hx, product_apply]
    unfold product
    have h4 : iblk V c 4 t (ix2 (⟨(y 0).val, hy0⟩ : Fin 512) (⟨(y 1).val, hy1⟩ : Fin 4608)) = V c main_arg3 (((cfg2.win 5).blk t).view.emb y) :=
      congrArg (V c main_arg3) (idx_ext _ _
        (show win2_4.index t (0 : Fin 2) * 512 + 1 * (y 0).val = win2_5.index t (0 : Fin 2) * 512 + 1 * (y 0).val by rw [e40, e50])
        (show win2_4.index t (1 : Fin 2) * 4608 + 1 * (y 1).val = win2_5.index t (1 : Fin 2) * 4608 + 1 * (y 1).val by rw [e41, e51]))
    have h2 : ∀ k : Fin 3072, iblk V c 2 t (ix2 k (⟨(y 0).val, hy0⟩ : Fin 512)) = V c main_v0 (ix2 k ((((cfg2.win 5).blk t).view.emb y) 0)) := fun k =>
      congrArg (V c main_v0) (idx_ext _ _
        (show win2_2.index t (0 : Fin 2) * 3072 + 1 * k.val = k.val by rw [e20]; omega)
        (show win2_2.index t (1 : Fin 2) * 512 + 1 * (y 0).val = win2_5.index t (0 : Fin 2) * 512 + 1 * (y 0).val by rw [e21, e50]))
    have h3 : ∀ k : Fin 3072, iblk V c 3 t (ix2 k (⟨(y 1).val, hy1⟩ : Fin 4608)) = V c main_v3 (ix2 k ((((cfg2.win 5).blk t).view.emb y) 1)) := fun k =>
      congrArg (V c main_v3) (idx_ext _ _
        (show win2_3.index t (0 : Fin 2) * 3072 + 1 * k.val = k.val by rw [e30]; omega)
        (show win2_3.index t (1 : Fin 2) * 4608 + 1 * (y 1).val = win2_5.index t (1 : Fin 2) * 4608 + 1 * (y 1).val by rw [e31, e51]))
    have h0 : iblk V c 0 t (ix2 0 0) = V c main_v4 (ix2 0 0) :=
      congrArg (V c main_v4) (idx_ext _ _ (show win2_0.index t (0 : Fin 2) * 1 + 1 * 0 = 0 by rw [e00]) (show win2_0.index t (1 : Fin 2) * 1 + 1 * 0 = 0 by rw [e01]))
    have h1 : iblk V c 1 t (ix2 0 0) = V c main_v2_0 (ix2 0 0) :=
      congrArg (V c main_v2_0) (idx_ext _ _ (show win2_1.index t (0 : Fin 2) * 1 + 1 * 0 = 0 by rw [e10]) (show win2_1.index t (1 : Fin 2) * 1 + 1 * 0 = 0 by rw [e11]))
    rw [h4, h0, h1]
    congr 2
    exact Finset.sum_congr rfl fun k _ => by rw [h2, h3])
    (fun i => by
      have h : (i 0).val < 8192 := (i 0).isLt
      refine ⟨⟨(i 0).val / 512, lt_of_lt_of_eq (by omega) N_2.symm⟩, flush2_5 _, (mem_blk _ i).mpr ?_⟩
      dsimp only
      omega)

end Cert.KernelIdeal.Own.K2

end
-- ==== Proof.KernelResults.lean ====
/- The kernel's results over the extended reals, call by call: the scale and its inverse, the codes, the product; then the three
   result buffers at the end of the run, in terms of the arguments. -/
module

public import proofs.«01_k».proof.Proof.Calls
public import proofs.«01_k».proof.Proof.Payloads
public import proofs.«01_k».proof.Proof.Amax
public import proofs.«01_k».proof.Proof.Array1
public import proofs.«01_k».proof.Proof.Array2
public import Idealize.ShloMosaic.Lib.StableHlo.Run

@[expose] public section

set_option maxRecDepth 16384

noncomputable section

namespace Cert.KernelIdeal.Own

open Cert.KernelIdeal Cert.KernelIdeal.Gen
open Idealize.ShloMosaic Idealize.ShloMosaic.TcCoe
open Idealize.SL Idealize.SL.Sem

variable (m : (ℓ : Loc nD τ sig) → Buf (Elt Ideal) ℓ)

/-! ## The arguments as the calls read them -/

/-- The activations' codes. -/
abbrev xOf (c : Dev nD) : Spec.At 3072 8192 → EReal :=
  shapeCast S3072x8192 (m ((c : Thread nD τ).loc main_arg0)) shapeCasts_S1x3072x8192_S3072x8192
/-- The activations' scale. -/
abbrev xsOf (c : Dev nD) : Spec.At 1 1 → EReal := shapeCast S1x1 (m ((c : Thread nD τ).loc main_arg1)) shapeCasts_S_S1x1
/-- The gradient. -/
abbrev dOf (c : Dev nD) : Spec.At 3072 4608 → EReal :=
  shapeCast S3072x4608 (m ((c : Thread nD τ).loc main_arg2)) shapeCasts_S1x3072x4608_S3072x4608
/-- The accumulator. -/
abbrev accOf (c : Dev nD) : Spec.At 8192 4608 → EReal := m ((c : Thread nD τ).loc main_arg3)

theorem V1_x (c : Dev nD) : V1 m c (Proc.devRef .tc main_v0) = xOf m c := by
  unfold V1 hostOps0
  after_results_simp
  rfl

theorem V1_d (c : Dev nD) : V1 m c (Proc.devRef .tc main_v1) = dOf m c := by
  unfold V1 hostOps0
  after_results_simp
  rfl

/-! ## The first call: the scale and its inverse -/

theorem scale_of (v : Vec Ideal S1x4608 .bf16) (d : Spec.At 3072 4608 → EReal) (h : top v = Spec.amax d) :
    (k0_pay5 v : S1x1.Idx → EReal) = fun _ => Spec.scale d := by
  funext i
  rw [Spec.one i (ix2 0 0), scale_apply, exponent_apply, h]
  exact Scale.scale_eq (Spec.amax d) (Spec.amax_nonneg d)

theorem inv_of (v : Vec Ideal S1x4608 .bf16) (d : Spec.At 3072 4608 → EReal) (h : top v = Spec.amax d) :
    (k0_pay3 (F := Ideal) (k0_pay4 v) : S1x1.Idx → EReal) = fun _ => Spec.inv d := by
  funext i
  rw [Spec.one i (ix2 0 0), inv_apply, exponent_apply, h]
  exact Scale.inv_eq (Spec.amax d) (Spec.amax_nonneg d)

theorem top_d (c : Dev nD) : top (K0.lastRow (Ve0 m) c) = Spec.amax (dOf m c) :=
  (K0.top_lastRow (Ve0 m) c).trans (congrArg Spec.amax (V1_d m c))

theorem scale_out (c : Dev nD) : outs m 2 main_v2_0 c = fun _ => Spec.scale (dOf m c) :=
  (outs_v2_0 m c).trans ((K0.scale_final (Ve0 m) c).trans (scale_of _ _ (top_d m c)))

theorem inv_out (c : Dev nD) : outs m 2 main_v2_1 c = fun _ => Spec.inv (dOf m c) :=
  (outs_v2_1 m c).trans ((K0.inv_final (Ve0 m) c).trans (inv_of _ _ (top_d m c)))

/-! ## The second call: the codes -/

theorem codes_out (c : Dev nD) : outs m 3 main_v3 c = Spec.codes (dOf m c) := by
  refine (outs_v3 m c).trans ((K1.codes_final _ (Ve1 m (outs m)) D₀ c).trans ?_)
  have hd : Ve1 m (outs m) c main_v1 = dOf m c := (V2_of m (outs m) c main_v1 (by decide)).trans (V1_d m c)
  have hi : Ve1 m (outs m) c main_v2_1 = fun _ => Spec.inv (dOf m c) := (V2_at_main_v2_1 m (outs m) c).trans (inv_out m c)
  unfold K1.codesOf
  rw [hd, hi]
  rfl

/-! ## The third call: the product -/

theorem V4_xs (c : Dev nD) : V4 m (outs m) c (Proc.devRef .tc main_v4) = xsOf m c := by
  have h : V3 m (outs m) c (Proc.devRef .tc main_arg1) = m ((c : Thread nD τ).loc main_arg1) :=
    (V3_of m (outs m) c main_arg1 (by decide)).trans ((V2_of m (outs m) c main_arg1 (by decide)).trans (V1_of m c main_arg1 (by decide)))
  unfold V4 hostOps2
  generalize V3 m (outs m) c = W at h
  after_results_simp
  rw [h]
  rfl

theorem product_out (c : Dev nD) : outs m 5 main_v5 c
    = Spec.product (accOf m c) (xOf m c) (Spec.codes (dOf m c)) (xsOf m c (ix2 0 0)) (Spec.scale (dOf m c)) := by
  refine (outs_v5 m c).trans ((K2.product_final _ (Ve2 m (outs m)) D₀ c).trans ?_)
  have ha : Ve2 m (outs m) c main_arg3 = accOf m c :=
    (V4_of m (outs m) c main_arg3 (by decide)).trans ((V3_of m (outs m) c main_arg3 (by decide)).trans
      ((V2_of m (outs m) c main_arg3 (by decide)).trans (V1_of m c main_arg3 (by decide))))
  have hx : Ve2 m (outs m) c main_v0 = xOf m c :=
    (V4_of m (outs m) c main_v0 (by decide)).trans ((V3_of m (outs m) c main_v0 (by decide)).trans
      ((V2_of m (outs m) c main_v0 (by decide)).trans (V1_x m c)))
  have hq : Ve2 m (outs m) c main_v3 = Spec.codes (dOf m c) :=
    (V4_of m (outs m) c main_v3 (by decide)).trans ((V3_at_main_v3 m (outs m) c).trans (codes_out m c))
  have hs : Ve2 m (outs m) c main_v2_0 = fun _ => Spec.scale (dOf m c) :=
    (V4_of m (outs m) c main_v2_0 (by decide)).trans ((V3_of m (outs m) c main_v2_0 (by decide)).trans
      ((V2_at_main_v2_0 m (outs m) c).trans (scale_out m c)))
  have hxs : Ve2 m (outs m) c main_v4 = xsOf m c := V4_xs m c
  rw [ha, hx, hq, hs, hxs]

/-! ## The result buffers at the end -/

/-- Result 1: the accumulator plus the rescaled product. -/
theorem result1 (c : Dev nD) : V6 m (outs m) c (Proc.devRef .tc main_v5)
    = Spec.product (accOf m c) (xOf m c) (Spec.codes (dOf m c)) (xsOf m c (ix2 0 0)) (Spec.scale (dOf m c)) :=
  (V6_of m (outs m) c main_v5 (by decide)).trans ((V5_at_main_v5 m (outs m) c).trans (product_out m c))

/-- Result 2: the codes. -/
theorem result2 (c : Dev nD) : V6 m (outs m) c (Proc.devRef .tc main_v6)
    = shapeCast S1x3072x4608 (Spec.codes (dOf m c)) shapeCasts_S3072x4608_S1x3072x4608 := by
  have h : V5 m (outs m) c (Proc.devRef .tc main_v3) = Spec.codes (dOf m c) :=
    (V5_of m (outs m) c main_v3 (by decide)).trans ((V4_of m (outs m) c main_v3 (by decide)).trans
      ((V3_at_main_v3 m (outs m) c).trans (codes_out m c)))
  unfold V6 hostOps3
  generalize V5 m (outs m) c = W at h
  after_results_simp
  rw [h]
  rfl

/-- Result 3: the scale. -/
theorem result3 (c : Dev nD) : V6 m (outs m) c (Proc.devRef .tc main_v7)
    = shapeCast S_ (fun _ : S1x1.Idx => Spec.scale (dOf m c)) shapeCasts_S1x1_S_ := by
  have h : V5 m (outs m) c (Proc.devRef .tc main_v2_0) = fun _ => Spec.scale (dOf m c) :=
    (V5_of m (outs m) c main_v2_0 (by decide)).trans ((V4_of m (outs m) c main_v2_0 (by decide)).trans
      ((V3_of m (outs m) c main_v2_0 (by decide)).trans ((V2_at_main_v2_0 m (outs m) c).trans (scale_out m c))))
  unfold V6 hostOps3
  generalize V5 m (outs m) c = W at h
  after_results_simp
  rw [h]
  rfl

/-- The run, at the results. -/
theorem run_results (ρ : Dev nD → PrngReg) : θ_run defs (onTc (τ := τ) (main (F := Ideal))) ⟨m, fun _ => 0, ρ⟩ (fun r => ∀ c : Dev nD,
      r.2.mem ((c.tc : Thread nD τ).loc main_v5)
        = Spec.product (accOf m c) (xOf m c) (Spec.codes (dOf m c)) (xsOf m c (ix2 0 0)) (Spec.scale (dOf m c))
      ∧ r.2.mem ((c.tc : Thread nD τ).loc main_v6) = shapeCast S1x3072x4608 (Spec.codes (dOf m c)) shapeCasts_S3072x4608_S1x3072x4608
      ∧ r.2.mem ((c.tc : Thread nD τ).loc main_v7) = shapeCast S_ (fun _ : S1x1.Idx => Spec.scale (dOf m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    have at_ (r : Ref sig .tc) (hr : ¬ (Proc.devRef .tc r : DevRef τ sig).isScoped) := h.1 c _ (mem_uc r hr)
    ⟨(at_ main_v5 (by decide)).trans (result1 m c), (at_ main_v6 (by decide)).trans (result2 m c), (at_ main_v7 (by decide)).trans (result3 m c),
     (at_ main_arg0 (by decide)).trans (V6_main_arg0 m (outs m) c), (at_ main_arg1 (by decide)).trans (V6_main_arg1 m (outs m) c),
     (at_ main_arg2 (by decide)).trans (V6_main_arg2 m (outs m) c), (at_ main_arg3 (by decide)).trans (V6_main_arg3 m (outs m) c)⟩) (run m ρ)

end Cert.KernelIdeal.Own

end
-- ==== Proof.RefPayloads.lean ====
/- What each store of the reference writes, read at an index over the extended reals. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Own

open Idealize.ShloMosaic Idealize.SL.Sem
open Cert.ReferenceIdeal Cert.ReferenceIdeal.Gen

/-- The exponent. -/
theorem exponent_apply (v : Vec Ideal S3072x4608 .bf16) (r s : Fin 1) : k0_pay4 v (ix2 r s) = Spec.exponent v := by
  unfold Spec.exponent Spec.amax Spec.mag Scale.rval
  rw [← Scale.bot32]
  pointwise [k0_pay4, k0_pay3]
  rfl

/-- The scale. -/
theorem scale_apply (v : Vec Ideal S3072x4608 .bf16) (r s : Fin 1) : k0_pay5 v (ix2 r s) = Spec.scale v := by
  have h (e : FVec Ideal S1x1 .f32) (i : S1x1.Idx) : (exp2 e : FVec Ideal S1x1 .f32) i = Ideal.exp2 (e i) := rfl
  unfold k0_pay5
  rw [h, exponent_apply]
  rfl

/-- The scaled values held from below, from the exponent `e`. -/
def raised (e : FVec Ideal S1x1 .f32) (v0 : FVec Ideal S3072x4608 .bf16) : FVec Ideal S3072x4608 .f32 :=
  have cst_12 : Ideal .f32 := Scalar.ofBits .f32 0x00000000#32
  have v35 : FVec Ideal S1x1 .f32 := broadcast S1x1 cst_12
  have v36 : FVec Ideal S1x1 .f32 := subf v35 e
  have v37 : FVec Ideal S1x1 .f32 := exp2 v36
  have v38 : FVec Ideal S3072x4608 .f32 := broadcastTo S3072x4608 v37 broadcasts_S1x1_S3072x4608
  have v39 : FVec Ideal S3072x4608 .f32 := mulf (k0_pay3 v0) v38
  have cst_13 : Ideal .f32 := Scalar.ofBits .f32 0xC7600000#32
  have v40 : FVec Ideal S3072x4608 .f32 := broadcast S3072x4608 cst_13
  have v41 : FVec Ideal S3072x4608 .f32 := maximumf v40 v39
  v41

theorem raised_apply (e : FVec Ideal S1x1 .f32) (v : FVec Ideal S3072x4608 .bf16) (r : Fin 3072) (s : Fin 4608) :
    raised e v (ix2 r s) = max (Ideal.ofBits .f32 3344957440#32) (v (ix2 r s) * Ideal.exp2 (0 - e (ix2 0 0))) := by
  pointwise [raised, k0_pay3]
  rfl

theorem raised_eq (v : Vec Ideal S3072x4608 .bf16) : k0_pay6 v = raised (k0_pay4 v) v := by
  unfold k0_pay6 raised
  rfl

/-- The upper end of the format's range, everywhere. -/
theorem upper_apply (i : S3072x4608.Idx) : k0_pay7 (F := Ideal) i = Ideal.ofBits .f32 1197473792#32 := rfl

/-- A code, before it is stored. -/
theorem held_apply (v : Vec Ideal S3072x4608 .bf16) (r : Fin 3072) (s : Fin 4608) :
    min (k0_pay7 (F := Ideal) (ix2 r s)) (k0_pay6 v (ix2 r s)) = Spec.codes v (ix2 r s) := by
  rw [upper_apply, raised_eq, raised_apply, exponent_apply]
  rfl

/-- The codes. -/
theorem codes_apply (v41 v42 : FVec Ideal S3072x4608 .f32) (i : S3072x4608.Idx) : k0_pay1 v41 v42 i = min (v42 i) (v41 i) := rfl

/-- The product. -/
theorem product_apply (v34 : FVec Ideal S1x1 .f32) (v41 : FVec Ideal S3072x4608 .f32) (v42 : FVec Ideal S3072x4608 .f32)
    (v45 : Vec Ideal S3072x8192 .fp8e4m3) (v48 : Vec Ideal S8192x4608 .f32) (v49 : Vec Ideal S1x1 .f32) (r : Fin 8192) (s : Fin 4608) :
    k0_pay2 v34 v41 v42 v45 v48 v49 (ix2 r s) = v48 (ix2 r s)
      + (∑ x : Fin 3072, v45 (ix2 x r) * min (v42 (ix2 x s)) (v41 (ix2 x s))) * (v49 (ix2 0 0) * v34 (ix2 0 0)) := by
  pointwise [k0_pay2, k0_pay1]

end Cert.ReferenceIdeal.Own

end
-- ==== Proof.RefArrays.lean ====
/- The reference's results: its one grid point reads whole arrays and writes whole arrays, so each result is what that point stores. -/
module

public import proofs.«01_k».proof.Proof.Gen.ReferenceIdeal.Frame
public import proofs.«01_k».proof.Proof.RefPayloads
public import Idealize.ShloMosaic.Lib.Pipeline.Value

@[expose] public section

set_option maxRecDepth 16384

noncomputable section

namespace Cert.ReferenceIdeal.Own

open Cert.ReferenceIdeal Cert.ReferenceIdeal.Gen
open Cert.Spec (idx_ext one zero2)
open Idealize.ShloMosaic Idealize.ShloMosaic.TcCoe
open Idealize.SL Idealize.SL.Sem
open Idealize.ShloMosaic.Pipeline (Dat Cfg Window)

section
variable {F : FTy → Type} [FloatOps F]
variable (m : (ℓ : Loc nD τ sig) → Buf (Elt F) ℓ)

/-- Every window's block is its whole array. -/
theorem index : ∀ t : Fin cfg0.N, (win0_0.index t (0 : Fin 2) = 0 ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ win0_6.index t (0 : Fin 2) = 0 ∧ win0_6.index t (1 : Fin 2) = 0 :=
  (by decide +kernel : ∀ t : Fin grid0.N, _)

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

theorem blk0 (c : Dev nD) (t : Fin cfg0.N) : iblk m c 0 t = (V m c main_v0 : S3072x8192.Idx → F .fp8e4m3) := by
  obtain ⟨⟨e0, e1⟩, -⟩ := index t
  funext y
  exact congrArg (V m c main_v0) (idx_ext _ _
    (show win0_0.index t (0 : Fin 2) * 3072 + 1 * (y 0).val = (y 0).val by rw [e0]; omega)
    (show win0_0.index t (1 : Fin 2) * 8192 + 1 * (y 1).val = (y 1).val by rw [e1]; omega))
theorem blk1 (c : Dev nD) (t : Fin cfg0.N) : iblk m c 1 t = (V m c main_v1 : S1x1.Idx → F .f32) := by
  funext y
  exact congrArg (V m c main_v1) (one _ _)
theorem blk2 (c : Dev nD) (t : Fin cfg0.N) : iblk m c 2 t = (V m c main_v2 : S3072x4608.Idx → F .bf16) := by
  obtain ⟨-, -, ⟨e0, e1⟩, -⟩ := index t
  funext y
  exact congrArg (V m c main_v2) (idx_ext _ _
    (show win0_2.index t (0 : Fin 2) * 3072 + 1 * (y 0).val = (y 0).val by rw [e0]; omega)
    (show win0_2.index t (1 : Fin 2) * 4608 + 1 * (y 1).val = (y 1).val by rw [e1]; omega))
theorem blk3 (c : Dev nD) (t : Fin cfg0.N) : iblk m c 3 t = (V m c main_arg3 : S8192x4608.Idx → F .f32) := by
  obtain ⟨-, -, -, ⟨e0, e1⟩, -⟩ := index t
  funext y
  exact congrArg (V m c main_arg3) (idx_ext _ _
    (show win0_3.index t (0 : Fin 2) * 8192 + 1 * (y 0).val = (y 0).val by rw [e0]; omega)
    (show win0_3.index t (1 : Fin 2) * 4608 + 1 * (y 1).val = (y 1).val by rw [e1]; omega))

theorem mem4 (t : Fin cfg0.N) (i : S8192x4608.Idx) : i ∈ ((cfg0.win 4).blk t).view.set := by
  show i ∈ ((View.whole main_v3_0).slice (win0_4.rect t)).set
  rw [View.set_slice_whole, Rect.mem_set_unit]
  obtain ⟨-, -, -, -, ⟨e0, e1⟩, -⟩ := index t
  intro a
  match a with
  | ⟨0, _⟩ => show win0_4.index t (0 : Fin 2) * 8192 ≤ (i 0).val ∧ (i 0).val < win0_4.index t (0 : Fin 2) * 8192 + 8192; have h : (i 0).val < 8192 := (i 0).isLt; omega
  | ⟨1, _⟩ => show win0_4.index t (1 : Fin 2) * 4608 ≤ (i 1).val ∧ (i 1).val < win0_4.index t (1 : Fin 2) * 4608 + 4608; have h : (i 1).val < 4608 := (i 1).isLt; omega
theorem mem5 (t : Fin cfg0.N) (i : S3072x4608.Idx) : i ∈ ((cfg0.win 5).blk t).view.set := by
  show i ∈ ((View.whole main_v3_1).slice (win0_5.rect t)).set
  rw [View.set_slice_whole, Rect.mem_set_unit]
  obtain ⟨-, -, -, -, -, ⟨e0, e1⟩, -⟩ := index t
  intro a
  match a with
  | ⟨0, _⟩ => show win0_5.index t (0 : Fin 2) * 3072 ≤ (i 0).val ∧ (i 0).val < win0_5.index t (0 : Fin 2) * 3072 + 3072; have h : (i 0).val < 3072 := (i 0).isLt; omega
  | ⟨1, _⟩ => show win0_5.index t (1 : Fin 2) * 4608 ≤ (i 1).val ∧ (i 1).val < win0_5.index t (1 : Fin 2) * 4608 + 4608; have h : (i 1).val < 4608 := (i 1).isLt; omega
theorem mem6 (t : Fin cfg0.N) (i : S1x1.Idx) : i ∈ ((cfg0.win 6).blk t).view.set := by
  show i ∈ ((View.whole main_v3_2).slice (win0_6.rect t)).set
  rw [View.set_slice_whole, Rect.mem_set_unit]
  obtain ⟨-, -, -, -, -, -, e0, e1⟩ := index t
  intro a
  match a with
  | ⟨0, _⟩ => show win0_6.index t (0 : Fin 2) * 1 ≤ (i 0).val ∧ (i 0).val < win0_6.index t (0 : Fin 2) * 1 + 1; have h : (i 0).val < 1 := (i 0).isLt; omega
  | ⟨1, _⟩ => show win0_6.index t (1 : Fin 2) * 1 ≤ (i 1).val ∧ (i 1).val < win0_6.index t (1 : Fin 2) * 1 + 1; have h : (i 1).val < 1 := (i 1).isLt; omega

theorem pt0 : (0 : ℕ) < cfg0.N := by decide +kernel

/-- The product's array after the run. -/
theorem final4 (c : Dev nD) : (dats m 0 c).arrAt 4 cfg0.N = (out0_4 (V m c main_v0) (V m c main_v1) (V m c main_v2) (V m c main_arg3) : S8192x4608.Idx → F .f32) :=
  (dats m 0 c).arrAt_eq_of_cover 4 _ (fun t _ => by
    show (cfg0.win 4).cut (grid0.coords t) ((dats m 0 c).after 4 t) = _
    rw [after0_4, blk0, blk1, blk2, blk3]
    generalize out0_4 (V m c main_v0) (V m c main_v1) (V m c main_v2) (V m c main_arg3) = G
    obtain ⟨-, -, -, -, ⟨e0, e1⟩, -⟩ := index t
    funext y
    exact congrArg G (idx_ext _ _
      (show (y 0).val = win0_4.index t (0 : Fin 2) * 8192 + 1 * (y 0).val by rw [e0]; omega)
      (show (y 1).val = win0_4.index t (1 : Fin 2) * 4608 + 1 * (y 1).val by rw [e1]; omega)))
    (fun i => ⟨⟨0, pt0⟩, flush4 _, mem4 _ i⟩)
/-- The codes' array after the run. -/
theorem final5 (c : Dev nD) : (dats m 0 c).arrAt 5 cfg0.N = (out0_5 (V m c main_v0) (V m c main_v1) (V m c main_v2) (V m c main_arg3) : S3072x4608.Idx → F .fp8e5m2) :=
  (dats m 0 c).arrAt_eq_of_cover 5 _ (fun t _ => by
    show (cfg0.win 5).cut (grid0.coords t) ((dats m 0 c).after 5 t) = _
    rw [after0_5, blk0, blk1, blk2, blk3]
    generalize out0_5 (V m c main_v0) (V m c main_v1) (V m c main_v2) (V m c main_arg3) = G
    obtain ⟨-, -, -, -, -, ⟨e0, e1⟩, -⟩ := index t
    funext y
    exact congrArg G (idx_ext _ _
      (show (y 0).val = win0_5.index t (0 : Fin 2) * 3072 + 1 * (y 0).val by rw [e0]; omega)
      (show (y 1).val = win0_5.index t (1 : Fin 2) * 4608 + 1 * (y 1).val by rw [e1]; omega)))
    (fun i => ⟨⟨0, pt0⟩, flush5 _, mem5 _ i⟩)
/-- The scale's array after the run. -/
theorem final6 (c : Dev nD) : (dats m 0 c).arrAt 6 cfg0.N = (out0_6 (V m c main_v0) (V m c main_v1) (V m c main_v2) (V m c main_arg3) : S1x1.Idx → F .f32) :=
  (dats m 0 c).arrAt_eq_of_cover 6 _ (fun t _ => by
    show (cfg0.win 6).cut (grid0.coords t) ((dats m 0 c).after 6 t) = _
    rw [after0_6, blk0, blk1, blk2, blk3]
    generalize out0_6 (V m c main_v0) (V m c main_v1) (V m c main_v2) (V m c main_arg3) = G
    funext y
    exact congrArg G (one _ _))
    (fun i => ⟨⟨0, pt0⟩, flush6 _, mem6 _ i⟩)
end

/-! ## Over the extended reals -/

/-- The scale. -/
theorem out6_eq (x : Vec Ideal S3072x8192 .fp8e4m3) (xs : Vec Ideal S1x1 .f32) (d : Vec Ideal S3072x4608 .bf16) (acc : Vec Ideal S8192x4608 .f32) :
    out0_6 x xs d acc = fun _ => Spec.scale d := by
  unfold out0_6 k0_pay8
  rw [View.canon_unit_zero zero2, View.ld_unit_zero zero2]
  funext i
  rw [eq_ix2 i]
  exact scale_apply d _ _

/-- The codes. -/
theorem out5_eq (x : Vec Ideal S3072x8192 .fp8e4m3) (xs : Vec Ideal S1x1 .f32) (d : Vec Ideal S3072x4608 .bf16) (acc : Vec Ideal S8192x4608 .f32) :
    out0_5 x xs d acc = Spec.codes d := by
  unfold out0_5 k0_pay9 k0_pay10
  rw [View.canon_unit_zero zero2, View.ld_unit_zero zero2]
  funext i
  rw [codes_apply, eq_ix2 i]
  exact held_apply d _ _

/-- The product. -/
theorem out4_eq (x : Vec Ideal S3072x8192 .fp8e4m3) (xs : Vec Ideal S1x1 .f32) (d : Vec Ideal S3072x4608 .bf16) (acc : Vec Ideal S8192x4608 .f32) :
    out0_4 x xs d acc = Spec.product acc x (Spec.codes d) (xs (ix2 0 0)) (Spec.scale d) := by
  unfold out0_4 k0_pay8 k0_pay9 k0_pay10
  rw [View.canon_unit_zero zero2, View.ld_unit_zero zero2, View.ld_unit_zero zero2, View.ld_unit_zero zero2, View.ld_unit_zero zero2]
  funext i
  rw [eq_ix2 i]
  generalize hr : i 0 = r
  generalize hs : i 1 = s
  refine (product_apply _ _ _ _ _ _ r s).trans ?_
  unfold Spec.product
  rw [scale_apply]
  exact congrArg (fun z => acc (ix2 r s) + z * (xs (ix2 0 0) * Spec.scale d)) (Finset.sum_congr rfl fun k _ => congrArg (x (ix2 k r) * ·) (held_apply d k s))

end Cert.ReferenceIdeal.Own

end
-- ==== Proof.RefResults.lean ====
/- The reference's results over the extended reals: its arrays after the one call, then the three result buffers at the end of the
   run, in terms of the arguments. -/
module

public import proofs.«01_k».proof.Proof.RefArrays
public import Idealize.ShloMosaic.Lib.StableHlo.Run

@[expose] public section

set_option maxRecDepth 16384

noncomputable section

namespace Cert.ReferenceIdeal.Own

open Cert.ReferenceIdeal Cert.ReferenceIdeal.Gen
open Idealize.ShloMosaic Idealize.ShloMosaic.TcCoe
open Idealize.SL Idealize.SL.Sem

variable (m : (ℓ : Loc nD τ sig) → Buf (Elt Ideal) ℓ)

/-- The activations' codes. -/
abbrev xOf (c : Dev nD) : Spec.At 3072 8192 → EReal :=
  shapeCast S3072x8192 (m ((c : Thread nD τ).loc main_arg0)) shapeCasts_S1x3072x8192_S3072x8192
/-- The activations' scale. -/
abbrev xsOf (c : Dev nD) : Spec.At 1 1 → EReal := shapeCast S1x1 (m ((c : Thread nD τ).loc main_arg1)) shapeCasts_S_S1x1
/-- The gradient. -/
abbrev dOf (c : Dev nD) : Spec.At 3072 4608 → EReal :=
  shapeCast S3072x4608 (m ((c : Thread nD τ).loc main_arg2)) shapeCasts_S1x3072x4608_S3072x4608
/-- The accumulator. -/
abbrev accOf (c : Dev nD) : Spec.At 8192 4608 → EReal := m ((c : Thread nD τ).loc main_arg3)

theorem V_x (c : Dev nD) : V m c main_v0 = xOf m c := by
  unfold V V0
  simp only [hostOps0, List.flatten_cons, List.flatten_nil, List.append_nil, List.cons_append, List.nil_append]
  after_results_simp
  rfl

theorem V_xs (c : Dev nD) : V m c main_v1 = xsOf m c := by
  unfold V V0
  simp only [hostOps0, List.flatten_cons, List.flatten_nil, List.append_nil, List.cons_append, List.nil_append]
  after_results_simp
  rfl

theorem V_d (c : Dev nD) : V m c main_v2 = dOf m c := by
  unfold V V0
  simp only [hostOps0, List.flatten_cons, List.flatten_nil, List.append_nil, List.cons_append, List.nil_append]
  after_results_simp
  rfl

theorem V_acc (c : Dev nD) : V m c main_arg3 = accOf m c := V_main_arg3 m c

/-- The product's array. -/
theorem array4 (c : Dev nD) : (dats m 0 c).arrAt 4 cfg0.N
    = Spec.product (accOf m c) (xOf m c) (Spec.codes (dOf m c)) (xsOf m c (ix2 0 0)) (Spec.scale (dOf m c)) := by
  refine (final4 m c).trans ?_
  rw [V_x, V_xs, V_d, V_acc]
  exact out4_eq _ _ _ _
/-- The codes' array. -/
theorem array5 (c : Dev nD) : (dats m 0 c).arrAt 5 cfg0.N = Spec.codes (dOf m c) := by
  refine (final5 m c).trans ?_
  rw [V_x, V_xs, V_d, V_acc]
  exact out5_eq _ _ _ _
/-- The scale's array. -/
theorem array6 (c : Dev nD) : (dats m 0 c).arrAt 6 cfg0.N = fun _ => Spec.scale (dOf m c) := by
  refine (final6 m c).trans ?_
  rw [V_x, V_xs, V_d, V_acc]
  exact out6_eq _ _ _ _

/-- The buffers when the call has ended. -/
def W (c : Dev nD) : Valuation τ sig (Elt Ideal) := Pipeline.withArrays spec0 c (V0 m c) fun w => (dats m 0 c).arrAt w cfg0.N

theorem arr_inj : Function.Injective (Pipeline.arrRef spec0) := by decide

theorem W_codes (c : Dev nD) : W m c (Proc.devRef .tc main_v3_1) = Spec.codes (dOf m c) :=
  (Pipeline.withArrays_arr spec0 arr_inj c (V0 m c) (fun w => (dats m 0 c).arrAt w cfg0.N) 5).trans (array5 m c)
theorem W_scale (c : Dev nD) : W m c (Proc.devRef .tc main_v3_2) = fun _ => Spec.scale (dOf m c) :=
  (Pipeline.withArrays_arr spec0 arr_inj c (V0 m c) (fun w => (dats m 0 c).arrAt w cfg0.N) 6).trans (array6 m c)

/-- Result 2: the codes. -/
theorem result2 (c : Dev nD) : Pipeline.afterTail₀ cfgs (dats m) 0 (V0 m) [hostOps1] c main_v4
    = shapeCast S1x3072x4608 (Spec.codes (dOf m c)) shapeCasts_S3072x4608_S1x3072x4608 := by
  show StableHlo.after [hostOps1].flatten (W m c) (Proc.devRef .tc main_v4) = _
  have h := W_codes m c
  generalize W m c = U at h
  simp only [hostOps1, List.flatten_cons, List.flatten_nil, List.append_nil, List.cons_append, List.nil_append]
  after_results_simp
  rw [h]
  rfl
/-- Result 3: the scale. -/
theorem result3 (c : Dev nD) : Pipeline.afterTail₀ cfgs (dats m) 0 (V0 m) [hostOps1] c main_v5
    = shapeCast S_ (fun _ : S1x1.Idx => Spec.scale (dOf m c)) shapeCasts_S1x1_S_ := by
  show StableHlo.after [hostOps1].flatten (W m c) (Proc.devRef .tc main_v5) = _
  have h := W_scale m c
  generalize W m c = U at h
  simp only [hostOps1, List.flatten_cons, List.flatten_nil, List.append_nil, List.cons_append, List.nil_append]
  after_results_simp
  rw [h]
  rfl

/-- The run, at the results. -/
theorem run_results (ρ : Dev nD → PrngReg) : θ_run defs (onTc (τ := τ) (main (F := Ideal))) ⟨m, fun _ => 0, ρ⟩ (fun r => ∀ c : Dev nD,
      r.2.mem ((c.tc : Thread nD τ).loc main_v3_0)
        = Spec.product (accOf m c) (xOf m c) (Spec.codes (dOf m c)) (xsOf m c (ix2 0 0)) (Spec.scale (dOf m c))
      ∧ r.2.mem ((c.tc : Thread nD τ).loc main_v4) = shapeCast S1x3072x4608 (Spec.codes (dOf m c)) shapeCasts_S3072x4608_S1x3072x4608
      ∧ r.2.mem ((c.tc : Thread nD τ).loc main_v5) = shapeCast S_ (fun _ : S1x1.Idx => Spec.scale (dOf m c)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (array4 m c),
     ((h c).2 main_v4 (Pipeline.mem_restRefs_of main_v4 (by decide) (by decide))).trans (result2 m c),
     ((h c).2 main_v5 (Pipeline.mem_restRefs_of main_v5 (by decide) (by decide))).trans (result3 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c)))⟩) (run_main m ρ)

end Cert.ReferenceIdeal.Own

end
-- ==== Proof.Algebraic.lean ====
/- The kernel computes what the reference computes: from equal arguments the two runs end with equal results, over the extended reals. -/
module

public import proofs.«01_k».proof.Defs
public import proofs.«01_k».proof.Proof.KernelResults
public import proofs.«01_k».proof.Proof.RefResults

@[expose] public section

noncomputable section

namespace Cert.Alg

open Idealize.ShloMosaic Idealize.ShloMosaic.TcCoe
open Idealize.SL Idealize.SL.Sem

/-- Every result of the kernel is the reference's. -/
theorem claim : Cert.algebraic_KernelIdeal_ReferenceIdeal := by
  intro m g m' g' _ hargs
  refine ⟨_, _, _, KernelIdeal.Own.run_results m g, ?_⟩
  refine (θ_run _ _ _).mono (fun r h c => ?_) (ReferenceIdeal.Own.run_results m' g')
  obtain ⟨a0, a1, a2, a3⟩ := hargs c
  obtain ⟨h1, h2, h3, hk⟩ := h c
  have hx : ReferenceIdeal.Own.xOf m' c = KernelIdeal.Own.xOf m c := by
    unfold ReferenceIdeal.Own.xOf KernelIdeal.Own.xOf; rw [a0]
  have hxs : ReferenceIdeal.Own.xsOf m' c = KernelIdeal.Own.xsOf m c := by
    unfold ReferenceIdeal.Own.xsOf KernelIdeal.Own.xsOf; rw [a1]
  have hd : ReferenceIdeal.Own.dOf m' c = KernelIdeal.Own.dOf m c := by
    unfold ReferenceIdeal.Own.dOf KernelIdeal.Own.dOf; rw [a2]
  have ha : ReferenceIdeal.Own.accOf m' c = KernelIdeal.Own.accOf m c := a3
  rw [hx, hxs, hd, ha] at h1
  rw [hd] at h2 h3
  exact ⟨h1, h2, h3, hk⟩

end Cert.Alg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Calls
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Same.frame, fun m g _ => Cert.KernelIdeal.Own.frame m g, fun m g _ => Cert.ReferenceIdeal.Gen.frame m g, trivial, Cert.Alg.claim⟩

end Cert.Proof

end
